-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S12288x2x5632 Cert.KernelIdeal.S12288x1x5632
  ∧ IdealRules.bf16_pair.BufferStatement Cert.KernelIdeal.S256x2x5632 Cert.KernelIdeal.S256x1x5632
  ∧ IdealRules.bf16_pair.Statement Cert.KernelIdeal.S128x2x512 Cert.KernelIdeal.S128x1x512
  ∧ IdealRules.bf16_pack.Statement Cert.KernelIdeal.S128x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_2)) (v1 : (c : Dev Cert.KernelIdeal.nD) → Buf (Elt Ideal) ((c.tc : Thread Cert.KernelIdeal.nD Cert.KernelIdeal.τ).loc Cert.KernelIdeal.main_v3_3)) (v2 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_2) = v0 c
          ∧ r.2.mem ((c.tc : Thread Cert.KernelIdeal.nD Cert.KernelIdeal.τ).loc Cert.KernelIdeal.main_v3_3) = v1 c
          ∧ r.2.mem ((c.tc : Thread Cert.KernelIdeal.nD Cert.KernelIdeal.τ).loc Cert.KernelIdeal.main_v3_4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1024x2048 : Shape := ⟨3, ![24, 1024, 2048]⟩
abbrev S2048x5632 : Shape := ⟨2, ![2048, 5632]⟩
abbrev S5632 : Shape := ⟨1, ![5632]⟩
abbrev S24576x2048 : Shape := ⟨2, ![24576, 2048]⟩
abbrev S1x5632 : Shape := ⟨2, ![1, 5632]⟩
abbrev S24576x5632 : Shape := ⟨2, ![24576, 5632]⟩
abbrev S12288x5632 : Shape := ⟨2, ![12288, 5632]⟩
abbrev S24576x16 : Shape := ⟨2, ![24576, 16]⟩
abbrev S8x128 : Shape := ⟨2, ![8, 128]⟩
abbrev S256x2048 : Shape := ⟨2, ![256, 2048]⟩
abbrev S512x5632 : Shape := ⟨2, ![512, 5632]⟩
abbrev S256x5632 : Shape := ⟨2, ![256, 5632]⟩
abbrev S512x2048 : Shape := ⟨2, ![512, 2048]⟩
abbrev S512x16 : Shape := ⟨2, ![512, 16]⟩
abbrev S256x16 : Shape := ⟨2, ![256, 16]⟩
abbrev S_ : Shape := ⟨0, ![]⟩
abbrev S32x16 : Shape := ⟨2, ![32, 16]⟩
abbrev S32x128 : Shape := ⟨2, ![32, 128]⟩
abbrev S32 : Shape := ⟨1, ![32]⟩
abbrev S32x1 : Shape := ⟨2, ![32, 1]⟩
abbrev S128 : Shape := ⟨1, ![128]⟩
abbrev S1x128 : Shape := ⟨2, ![1, 128]⟩
abbrev S1 : Shape := ⟨1, ![1]⟩
abbrev S1x1 : Shape := ⟨2, ![1, 1]⟩
abbrev S2048x512 : Shape := ⟨2, ![2048, 512]⟩
abbrev S256x512 : Shape := ⟨2, ![256, 512]⟩
abbrev S1x512 : Shape := ⟨2, ![1, 512]⟩
abbrev S32x8x512 : Shape := ⟨3, ![32, 8, 512]⟩
abbrev S8x512 : Shape := ⟨2, ![8, 512]⟩
abbrev S128x512 : Shape := ⟨2, ![128, 512]⟩

abbrev nBuf : Space → Nat
  | .hbm => 12
  | .vmem => 21
  | .smem => 0
  | _ => 0

abbrev bufTy : (tb : Table) → Fin (tcTables nBuf tb) → BufTy
  | .hbm, ⟨0, _⟩ => ⟨S24x1024x2048, .bf16⟩
  | .hbm, ⟨1, _⟩ => ⟨S2048x5632, .fp8e4m3⟩
  | .hbm, ⟨2, _⟩ => ⟨S5632, .f32⟩
  | .hbm, ⟨3, _⟩ => ⟨S24576x2048, .bf16⟩
  | .hbm, ⟨4, _⟩ => ⟨S1x5632, .f32⟩
  | .hbm, ⟨5, _⟩ => ⟨S24576x2048, .bf16⟩
  | .hbm, ⟨6, _⟩ => ⟨S24576x5632, .fp8e4m3⟩
  | .hbm, ⟨7, _⟩ => ⟨S12288x5632, .i32⟩
  | .hbm, ⟨8, _⟩ => ⟨S24576x2048, .fp8e4m3⟩
  | .hbm, ⟨9, _⟩ => ⟨S24576x16, .f32⟩
  | .hbm, ⟨10, _⟩ => ⟨S8x128, .f32⟩
  | .hbm, ⟨11, _⟩ => ⟨S8x128, .i32⟩
  | .local _ .vmem, ⟨0, _⟩ => ⟨S1x5632, .f32⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S512x5632, .fp8e4m3⟩
  | .local _ .vmem, ⟨6, _⟩ => ⟨S512x5632, .fp8e4m3⟩
  | .local _ .vmem, ⟨7, _⟩ => ⟨S256x5632, .i32⟩
  | .local _ .vmem, ⟨8, _⟩ => ⟨S256x5632, .i32⟩
  | .local _ .vmem, ⟨9, _⟩ => ⟨S512x2048, .fp8e4m3⟩
  | .local _ .vmem, ⟨10, _⟩ => ⟨S512x2048, .fp8e4m3⟩
  | .local _ .vmem, ⟨11, _⟩ => ⟨S512x16, .f32⟩
  | .local _ .vmem, ⟨12, _⟩ => ⟨S512x16, .f32⟩
  | .local _ .vmem, ⟨13, _⟩ => ⟨S8x128, .f32⟩
  | .local _ .vmem, ⟨14, _⟩ => ⟨S8x128, .i32⟩
  | .local _ .vmem, ⟨15, _⟩ => ⟨S2048x5632, .fp8e4m3⟩
  | .local _ .vmem, ⟨16, _⟩ => ⟨S256x2048, .bf16⟩
  | .local _ .vmem, ⟨17, _⟩ => ⟨S256x2048, .bf16⟩
  | .local _ .vmem, ⟨18, _⟩ => ⟨S256x2048, .fp8e4m3⟩
  | .local _ .vmem, ⟨19, _⟩ => ⟨S256x16, .f32⟩
  | .local _ .vmem, ⟨20, _⟩ => ⟨S256x2048, .bf16⟩
  | _, _ => ⟨S24x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [BitOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_4502 : BitVec 32 := 0#32
  let c8_i32_4503 : BitVec 32 := 8#32
  let v12462 : BitVec 32 := Scalar.addi c0_i32_4502 c8_i32_4503
  let c1_i32_4504 : BitVec 32 := 1#32
  ⟨c0_i32_4502, v12462, c1_i32_4504⟩
def k0_mult1 (k0_t1 : Fin k0_t1_loop.trips) : BitVec 32 :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  v12463
def k0_off1 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12467 : Index := Scalar.indexCast v12464
  let c0_4507 : Index := 0#32
  ![v12467.toNat, 0]
def k0_off2 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12515 : Index := Scalar.indexCast v12464
  let c128_4520 : Index := 128#32
  ![v12515.toNat, 128]
def k0_off3 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12563 : Index := Scalar.indexCast v12464
  let c256_4533 : Index := 256#32
  ![v12563.toNat, 256]
def k0_off4 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12611 : Index := Scalar.indexCast v12464
  let c384_4546 : Index := 384#32
  ![v12611.toNat, 384]
def k0_off5 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12659 : Index := Scalar.indexCast v12464
  let c512_4559 : Index := 512#32
  ![v12659.toNat, 512]
def k0_off6 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12707 : Index := Scalar.indexCast v12464
  let c640_4572 : Index := 640#32
  ![v12707.toNat, 640]
def k0_off7 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12755 : Index := Scalar.indexCast v12464
  let c768_4585 : Index := 768#32
  ![v12755.toNat, 768]
def k0_off8 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12803 : Index := Scalar.indexCast v12464
  let c896_4598 : Index := 896#32
  ![v12803.toNat, 896]
def k0_off9 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12851 : Index := Scalar.indexCast v12464
  let c1024_4611 : Index := 1024#32
  ![v12851.toNat, 1024]
def k0_off10 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12899 : Index := Scalar.indexCast v12464
  let c1152_4624 : Index := 1152#32
  ![v12899.toNat, 1152]
def k0_off11 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12947 : Index := Scalar.indexCast v12464
  let c1280_4637 : Index := 1280#32
  ![v12947.toNat, 1280]
def k0_off12 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12995 : Index := Scalar.indexCast v12464
  let c1408_4650 : Index := 1408#32
  ![v12995.toNat, 1408]
def k0_off13 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v13043 : Index := Scalar.indexCast v12464
  let c1536_4663 : Index := 1536#32
  ![v13043.toNat, 1536]
def k0_off14 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v13091 : Index := Scalar.indexCast v12464
  let c1664_4676 : Index := 1664#32
  ![v13091.toNat, 1664]
def k0_off15 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v13139 : Index := Scalar.indexCast v12464
  let c1792_4689 : Index := 1792#32
  ![v13139.toNat, 1792]
def k0_off16 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v13187 : Index := Scalar.indexCast v12464
  let c1920_4702 : Index := 1920#32
  ![v13187.toNat, 1920]
def k0_off17 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v13235 : Index := Scalar.indexCast v12464
  let c0_4715 : Index := 0#32
  ![v13235.toNat, 0]
def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c95_i32 : BitVec 32 := 95#32
  let v2 : BitVec 32 := Scalar.minsi v1 c95_i32
  let c0_i32 : BitVec 32 := 0#32
  let c0_i32_1 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
abbrev S24x1024x2048 : Shape := ⟨3, ![24, 1024, 2048]⟩
abbrev S2048x5632 : Shape := ⟨2, ![2048, 5632]⟩
abbrev S5632 : Shape := ⟨1, ![5632]⟩
abbrev S24576x2048 : Shape := ⟨2, ![24576, 2048]⟩
abbrev S1x5632 : Shape := ⟨2, ![1, 5632]⟩
abbrev S24576x5632 : Shape := ⟨2, ![24576, 5632]⟩
abbrev S12288x2x5632 : Shape := ⟨3, ![12288, 2, 5632]⟩
abbrev S24576x16 : Shape := ⟨2, ![24576, 16]⟩
abbrev S8x128 : Shape := ⟨2, ![8, 128]⟩
abbrev S12288x1x5632 : Shape := ⟨3, ![12288, 1, 5632]⟩
abbrev S12288x5632 : Shape := ⟨2, ![12288, 5632]⟩
abbrev S256x2048 : Shape := ⟨2, ![256, 2048]⟩
abbrev S512x5632 : Shape := ⟨2, ![512, 5632]⟩
abbrev S256x5632 : Shape := ⟨2, ![256, 5632]⟩
abbrev S256x2x5632 : Shape := ⟨3, ![256, 2, 5632]⟩
abbrev S256x1x5632 : Shape := ⟨3, ![256, 1, 5632]⟩
abbrev S512x2048 : Shape := ⟨2, ![512, 2048]⟩
abbrev S512x16 : Shape := ⟨2, ![512, 16]⟩
abbrev S256x16 : Shape := ⟨2, ![256, 16]⟩
abbrev S_ : Shape := ⟨0, ![]⟩
abbrev S32x16 : Shape := ⟨2, ![32, 16]⟩
abbrev S32x128 : Shape := ⟨2, ![32, 128]⟩
abbrev S32 : Shape := ⟨1, ![32]⟩
abbrev S32x1 : Shape := ⟨2, ![32, 1]⟩
abbrev S128 : Shape := ⟨1, ![128]⟩
abbrev S1x128 : Shape := ⟨2, ![1, 128]⟩
abbrev S1 : Shape := ⟨1, ![1]⟩
abbrev S1x1 : Shape := ⟨2, ![1, 1]⟩
abbrev S2048x512 : Shape := ⟨2, ![2048, 512]⟩
abbrev S256x512 : Shape := ⟨2, ![256, 512]⟩
abbrev S1x512 : Shape := ⟨2, ![1, 512]⟩
abbrev S32x8x512 : Shape := ⟨3, ![32, 8, 512]⟩
abbrev S8x512 : Shape := ⟨2, ![8, 512]⟩
abbrev S128x512 : Shape := ⟨2, ![128, 512]⟩
abbrev S128x2x512 : Shape := ⟨3, ![128, 2, 512]⟩
abbrev S128x1x512 : Shape := ⟨3, ![128, 1, 512]⟩

abbrev nBuf : Space → Nat
  | .hbm => 12
  | .vmem => 21
  | .smem => 0
  | _ => 0

abbrev bufTy : (tb : Table) → Fin (tcTables nBuf tb) → BufTy
  | .hbm, ⟨0, _⟩ => ⟨S24x1024x2048, .bf16⟩
  | .hbm, ⟨1, _⟩ => ⟨S2048x5632, .fp8e4m3⟩
  | .hbm, ⟨2, _⟩ => ⟨S5632, .f32⟩
  | .hbm, ⟨3, _⟩ => ⟨S24576x2048, .bf16⟩
  | .hbm, ⟨4, _⟩ => ⟨S1x5632, .f32⟩
  | .hbm, ⟨5, _⟩ => ⟨S24576x2048, .bf16⟩
  | .hbm, ⟨6, _⟩ => ⟨S24576x5632, .fp8e4m3⟩
  | .hbm, ⟨7, _⟩ => ⟨S12288x2x5632, .bf16⟩
  | .hbm, ⟨8, _⟩ => ⟨S24576x2048, .fp8e4m3⟩
  | .hbm, ⟨9, _⟩ => ⟨S24576x16, .f32⟩
  | .hbm, ⟨10, _⟩ => ⟨S8x128, .f32⟩
  | .hbm, ⟨11, _⟩ => ⟨S8x128, .i32⟩
  | .local _ .vmem, ⟨0, _⟩ => ⟨S1x5632, .f32⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S512x5632, .fp8e4m3⟩
  | .local _ .vmem, ⟨6, _⟩ => ⟨S512x5632, .fp8e4m3⟩
  | .local _ .vmem, ⟨7, _⟩ => ⟨S256x2x5632, .bf16⟩
  | .local _ .vmem, ⟨8, _⟩ => ⟨S256x2x5632, .bf16⟩
  | .local _ .vmem, ⟨9, _⟩ => ⟨S512x2048, .fp8e4m3⟩
  | .local _ .vmem, ⟨10, _⟩ => ⟨S512x2048, .fp8e4m3⟩
  | .local _ .vmem, ⟨11, _⟩ => ⟨S512x16, .f32⟩
  | .local _ .vmem, ⟨12, _⟩ => ⟨S512x16, .f32⟩
  | .local _ .vmem, ⟨13, _⟩ => ⟨S8x128, .f32⟩
  | .local _ .vmem, ⟨14, _⟩ => ⟨S8x128, .i32⟩
  | .local _ .vmem, ⟨15, _⟩ => ⟨S2048x5632, .fp8e4m3⟩
  | .local _ .vmem, ⟨16, _⟩ => ⟨S256x2048, .bf16⟩
  | .local _ .vmem, ⟨17, _⟩ => ⟨S256x2048, .bf16⟩
  | .local _ .vmem, ⟨18, _⟩ => ⟨S256x2048, .fp8e4m3⟩
  | .local _ .vmem, ⟨19, _⟩ => ⟨S256x16, .f32⟩
  | .local _ .vmem, ⟨20, _⟩ => ⟨S256x2048, .bf16⟩
  | _, _ => ⟨S24x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_4502 : BitVec 32 := 0#32
  let c8_i32_4503 : BitVec 32 := 8#32
  let v12462 : BitVec 32 := Scalar.addi c0_i32_4502 c8_i32_4503
  let c1_i32_4504 : BitVec 32 := 1#32
  ⟨c0_i32_4502, v12462, c1_i32_4504⟩
def k0_mult1 (k0_t1 : Fin k0_t1_loop.trips) : BitVec 32 :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  v12463
def k0_off1 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12467 : Index := Scalar.indexCast v12464
  let c0_4507 : Index := 0#32
  ![v12467.toNat, 0]
def k0_off2 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12515 : Index := Scalar.indexCast v12464
  let c128_4520 : Index := 128#32
  ![v12515.toNat, 128]
def k0_off3 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12563 : Index := Scalar.indexCast v12464
  let c256_4533 : Index := 256#32
  ![v12563.toNat, 256]
def k0_off4 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12611 : Index := Scalar.indexCast v12464
  let c384_4546 : Index := 384#32
  ![v12611.toNat, 384]
def k0_off5 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12659 : Index := Scalar.indexCast v12464
  let c512_4559 : Index := 512#32
  ![v12659.toNat, 512]
def k0_off6 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12707 : Index := Scalar.indexCast v12464
  let c640_4572 : Index := 640#32
  ![v12707.toNat, 640]
def k0_off7 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12755 : Index := Scalar.indexCast v12464
  let c768_4585 : Index := 768#32
  ![v12755.toNat, 768]
def k0_off8 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12803 : Index := Scalar.indexCast v12464
  let c896_4598 : Index := 896#32
  ![v12803.toNat, 896]
def k0_off9 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12851 : Index := Scalar.indexCast v12464
  let c1024_4611 : Index := 1024#32
  ![v12851.toNat, 1024]
def k0_off10 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12899 : Index := Scalar.indexCast v12464
  let c1152_4624 : Index := 1152#32
  ![v12899.toNat, 1152]
def k0_off11 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12947 : Index := Scalar.indexCast v12464
  let c1280_4637 : Index := 1280#32
  ![v12947.toNat, 1280]
def k0_off12 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v12995 : Index := Scalar.indexCast v12464
  let c1408_4650 : Index := 1408#32
  ![v12995.toNat, 1408]
def k0_off13 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v13043 : Index := Scalar.indexCast v12464
  let c1536_4663 : Index := 1536#32
  ![v13043.toNat, 1536]
def k0_off14 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v13091 : Index := Scalar.indexCast v12464
  let c1664_4676 : Index := 1664#32
  ![v13091.toNat, 1664]
def k0_off15 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v13139 : Index := Scalar.indexCast v12464
  let c1792_4689 : Index := 1792#32
  ![v13139.toNat, 1792]
def k0_off16 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v13187 : Index := Scalar.indexCast v12464
  let c1920_4702 : Index := 1920#32
  ![v13187.toNat, 1920]
def k0_off17 (k0_t1 : Fin k0_t1_loop.trips) : Fin 2 → Nat :=
  let c0_i32_4502 : BitVec 32 := 0#32
  let c1_i32_4504 : BitVec 32 := 1#32
  let arg20 : BitVec 32 := Scf.iv c0_i32_4502 c1_i32_4504 k0_t1
  let c32_i32 : BitVec 32 := 32#32
  let v12463 : BitVec 32 := Scalar.muli arg20 c32_i32
  let v12464 : BitVec 32 := v12463
  let v13235 : Index := Scalar.indexCast v12464
  let c0_4715 : Index := 0#32
  ![v13235.toNat, 0]
def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c95_i32 : BitVec 32 := 95#32
  let v2 : BitVec 32 := Scalar.minsi v1 c95_i32
  let c0_i32 : BitVec 32 := 0#32
  let c0_i32_1 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S24x1024x2048 : Shape := ⟨3, ![24, 1024, 2048]⟩
abbrev S2048x5632 : Shape := ⟨2, ![2048, 5632]⟩
abbrev S5632 : Shape := ⟨1, ![5632]⟩
abbrev S24576x2048 : Shape := ⟨2, ![24576, 2048]⟩
abbrev S1x5632 : Shape := ⟨2, ![1, 5632]⟩
abbrev S24576x16 : Shape := ⟨2, ![24576, 16]⟩
abbrev S8x128 : Shape := ⟨2, ![8, 128]⟩
abbrev S24576x16x128 : Shape := ⟨3, ![24576, 16, 128]⟩
abbrev S24576x16x1 : Shape := ⟨3, ![24576, 16, 1]⟩
abbrev S24576x5632 : Shape := ⟨2, ![24576, 5632]⟩
abbrev S3072x8x5632 : Shape := ⟨3, ![3072, 8, 5632]⟩
abbrev S8x5632 : Shape := ⟨2, ![8, 5632]⟩
abbrev S8x44x128 : Shape := ⟨3, ![8, 44, 128]⟩

abbrev nBuf : Space → Nat
  | .hbm => 8
  | .vmem => 6
  | .smem => 0
  | _ => 0

abbrev bufTy : (tb : Table) → Fin (tcTables nBuf tb) → BufTy
  | .hbm, ⟨0, _⟩ => ⟨S24x1024x2048, .bf16⟩
  | .hbm, ⟨1, _⟩ => ⟨S2048x5632, .fp8e4m3⟩
  | .hbm, ⟨2, _⟩ => ⟨S5632, .f32⟩
  | .hbm, ⟨3, _⟩ => ⟨S24576x2048, .bf16⟩
  | .hbm, ⟨4, _⟩ => ⟨S1x5632, .f32⟩
  | .hbm, ⟨5, _⟩ => ⟨S24576x2048, .fp8e4m3⟩
  | .hbm, ⟨6, _⟩ => ⟨S24576x16, .f32⟩
  | .hbm, ⟨7, _⟩ => ⟨S8x128, .f32⟩
  | .local _ .vmem, ⟨0, _⟩ => ⟨S24576x2048, .bf16⟩
  | .local _ .vmem, ⟨1, _⟩ => ⟨S2048x5632, .fp8e4m3⟩
  | .local _ .vmem, ⟨2, _⟩ => ⟨S1x5632, .f32⟩
  | .local _ .vmem, ⟨3, _⟩ => ⟨S24576x2048, .fp8e4m3⟩
  | .local _ .vmem, ⟨4, _⟩ => ⟨S24576x16, .f32⟩
  | .local _ .vmem, ⟨5, _⟩ => ⟨S8x128, .f32⟩
  | _, _ => ⟨S24x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x5632 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Claims.lean ====
/- The claims that need no values: every program terminates without fault and leaves its arguments unchanged, and the ideal
   program is the kernel over the extended reals. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import Idealize.ShloMosaic.Lib.Bf16PairInverse

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The kernel terminates without fault, leaves its arguments unchanged and every semaphore at zero. -/
theorem frame_p : Cert.quiescent_Kernel := fun m ρ _ => Cert.Kernel.Gen.frame m ρ
/-- So does the ideal program of the kernel. -/
theorem frame_pi : Cert.quiescent_KernelIdeal := fun m ρ _ => Cert.KernelIdeal.Gen.frame m ρ
/-- So does the ideal program of the reference. -/
theorem frame_ri : Cert.quiescent_ReferenceIdeal := fun m ρ _ => Cert.ReferenceIdeal.Gen.frame m ρ

/-- The ideal program is the kernel: the two buffers of packed words are buffers of pairs of bf16 rows, the words stored
    to and the stash of pairs written from them hold the two rows that were packed. -/
theorem preserves : Cert.preserves_Kernel_KernelIdeal :=
  open IdealRules.bf16_pair in
  ⟨bufferStatement _ _, bufferStatement _ _, statement _ _, Idealize.ShloMosaic.IdealRules.bf16_pack.statement _⟩

end Cert.Proof

end
-- ==== Proof.Block.lean ====
/- The quantiser, one block of 128 columns of 32 rows at a time, as the kernel computes it, and what it is element by
   element: the codes, the scale and the dequantised operand of a block of a tile of `x` are those of the tile's rows. -/
module

public import proofs.«01_k».proof.Proof.Gen.KernelIdeal
public import Idealize.ShloMosaic.Lib.Pointwise
public import Idealize.ShloMosaic.Lib.Pipeline.ReadBack
public import Idealize.ShloMosaic.Lib.Pipeline.Value

@[expose] public section

set_option maxRecDepth 16384

noncomputable section

namespace Cert.KernelIdeal.Val

open Idealize.ShloMosaic Facts₀ Facts

/-! ## The quantiser of `n` rows, at an index -/

/-- `n` rows of 2048 columns. -/
abbrev Sh (n : ℕ) : Shape := ⟨2, ![n, 2048]⟩
/-- The 16 block scales of `n` rows. -/
abbrev Sc (n : ℕ) : Shape := ⟨2, ![n, 16]⟩

/-- Column `k` of block `j`. -/
def colB (j : Fin 16) (k : Fin 128) : Fin 2048 := ⟨128 * j.val + k.val, by omega⟩

/-- The block a column lies in. -/
def blkOf (c : Fin 2048) : Fin 16 := ⟨c.val / 128, by omega⟩

/-- The largest magnitude of 128 values, over 448. -/
def qOf (f : Fin 128 → EReal) : EReal :=
  Finset.fold max (Ideal.ofBits FTy.f32 0xFF800000#32) (fun k => FloatOps.absf (F := Ideal) (φ := .f32) (f k)) Finset.univ
    * Ideal.ofBits FTy.f32 0x3B124925#32

/-- The exponent of the block scale. -/
def eOf (q : EReal) : EReal :=
  if q = 0 then 0
  else Ideal.liftRound Int.floor (Ideal.div (Ideal.log q) (Ideal.log (Ideal.ofBits FTy.f32 0x40000000#32))) + 1

/-- The exponent of the scale of row `r`, block `j`. -/
def expo {n : ℕ} (X : (Sh n).Idx → EReal) (r : Fin n) (j : Fin 16) : EReal := eOf (qOf fun k => X (ix2 r (colB j k)))

/-- The block scales. -/
def scalesT {n : ℕ} (X : (Sh n).Idx → EReal) (y : (Sc n).Idx) : EReal :=
  FloatOps.exp2 (F := Ideal) (φ := .f32) (expo X (y 0) (y 1))

/-- The codes. -/
def codesT {n : ℕ} (X : (Sh n).Idx → EReal) (y : (Sh n).Idx) : EReal :=
  min (Ideal.ofBits FTy.f32 0x43E00000#32) (max (Ideal.ofBits FTy.f32 0xC3E00000#32)
    (X y * FloatOps.exp2 (F := Ideal) (φ := .f32) (0 - expo X (y 0) (blkOf (y 1)))))

/-- The dequantised values. -/
def deqT {n : ℕ} (X : (Sh n).Idx → EReal) (y : (Sh n).Idx) : EReal :=
  codesT X y * FloatOps.exp2 (F := Ideal) (φ := .f32) (expo X (y 0) (blkOf (y 1)))

/-! ## One block of the kernel -/

/-- The block's row maxima over 448. -/
def bq (v : FVec Ideal S32x128 .bf16) : FVec Ideal S32x1 .f32 :=
  mulf (shapeCast S32x1 (multiReduction .maximumf [1] S32 (absf (extf .f32 v bitsLt_bf16_f32)) 0xFF800000#32 reduces_S32x128_S32
    (.inl rfl) rfl) shapeCasts_S32_S32x1) (broadcast S32x1 (Scalar.ofBits .f32 0x3B124925#32))

/-- The exponents of the block's row scales. -/
def be (v : FVec Ideal S32x128 .bf16) : FVec Ideal S32x1 .f32 :=
  select (cmpf .oeq (bq v) (broadcast S32x1 (Scalar.ofBits .f32 0x00000000#32))) (broadcast S32x1 (Scalar.ofBits .f32 0x00000000#32))
    (addf (floor (divf (log (bq v)) (log (broadcast S32x1 (Scalar.ofBits .f32 0x40000000#32)))))
      (broadcast S32x1 (Scalar.ofBits .f32 0x3F800000#32)))

/-- The block's row scales. -/
def bscale (v : FVec Ideal S32x128 .bf16) : FVec Ideal S32x1 .f32 := exp2 (be v)

/-- The block's codes. -/
def bcodes (v : FVec Ideal S32x128 .bf16) : FVec Ideal S32x128 .fp8e4m3 :=
  truncf .fp8e4m3 (minimumf (broadcast S32x128 (Scalar.ofBits .f32 0x43E00000#32))
    (maximumf (broadcast S32x128 (Scalar.ofBits .f32 0xC3E00000#32))
      (mulf (extf .f32 v bitsLt_bf16_f32)
        (broadcastTo S32x128 (exp2 (subf (broadcast S32x1 (Scalar.ofBits .f32 0x00000000#32)) (be v)))
          broadcasts_S32x1_S32x128)))) bitsLt_fp8e4m3_f32

/-- The block's dequantised values. -/
def bdeq (v : FVec Ideal S32x128 .bf16) : FVec Ideal S32x128 .bf16 :=
  mulf (extf .bf16 (bcodes v) bitsLt_fp8e4m3_bf16)
    (truncf .bf16 (broadcastTo S32x128 (shapeCast S32x1 (bscale v) shapeCasts_S32x1_S32x1) broadcasts_S32x1_S32x128) bitsLt_bf16_f32)

/-- One more block scale put into its lane of the scales of 32 rows. -/
def bsel (k : BitVec 32) (v : FVec Ideal S32x128 .bf16) (acc : FVec Ideal S32x16 .f32) : FVec Ideal S32x16 .f32 :=
  select (cmpi .eq (iota .tc S32x16 32 [1] iota_S32x16_d1_w32) (broadcast S32x16 k))
    (broadcastTo S32x16 (shapeCast S32x1 (bscale v) shapeCasts_S32x1_S32x1) broadcasts_S32x1_S32x16) acc

/-- Row `r` of the row maxima over 448 is the largest magnitude of that row, over 448. -/
theorem bq_apply (v : FVec Ideal S32x128 .bf16) (r : Fin 32) : bq v (ix2 r 0) = qOf fun k => v (ix2 r k) := by
  pointwise [bq]
  rfl

/-- Row `r` of the exponents is the exponent of the largest magnitude of that row, over 448. -/
theorem be_apply (v : FVec Ideal S32x128 .bf16) (r : Fin 32) : be v (ix2 r 0) = eOf (qOf fun k => v (ix2 r k)) := by
  pointwise [be]
  rw [bq_apply]
  rfl

/-- Row `r` of the row scales is two to its exponent. -/
theorem bscale_apply (v : FVec Ideal S32x128 .bf16) (r : Fin 32) :
    bscale v (ix2 r 0) = FloatOps.exp2 (F := Ideal) (φ := .f32) (eOf (qOf fun k => v (ix2 r k))) := by
  rw [← be_apply]; rfl

/-- An element of the codes is the value times two to minus the exponent of its row, clipped to 448. -/
theorem bcodes_apply (v : FVec Ideal S32x128 .bf16) (r : Fin 32) (c : Fin 128) : bcodes v (ix2 r c)
    = min (Ideal.ofBits FTy.f32 0x43E00000#32) (max (Ideal.ofBits FTy.f32 0xC3E00000#32)
      (v (ix2 r c) * FloatOps.exp2 (F := Ideal) (φ := .f32) (0 - eOf (qOf fun k => v (ix2 r k))))) := by
  pointwise [bcodes]
  rw [be_apply]

/-- An element of the dequantised values is its code times the scale of its row. -/
theorem bdeq_apply (v : FVec Ideal S32x128 .bf16) (r : Fin 32) (c : Fin 128) :
    bdeq v (ix2 r c) = bcodes v (ix2 r c) * FloatOps.exp2 (F := Ideal) (φ := .f32) (eOf (qOf fun k => v (ix2 r k))) := by
  pointwise [bdeq]
  rw [bscale_apply]

/-- Lane `k` holds the scales of the block just added; the others are as before. -/
theorem bsel_apply (k : Fin 16) (v : FVec Ideal S32x128 .bf16) (acc : FVec Ideal S32x16 .f32) (r : Fin 32) (c : Fin 16) :
    bsel (BitVec.ofNat 32 k.val) v acc (ix2 r c)
      = if c = k then FloatOps.exp2 (F := Ideal) (φ := .f32) (eOf (qOf fun k => v (ix2 r k))) else acc (ix2 r c) := by
  pointwise [bsel]
  rw [bscale_apply]
  have h : IntOp.cmpi CmpIPredicate.eq (BitVec.ofNat 32 c.val) (BitVec.ofNat 32 k.val) = if c = k then 1#1 else 0#1 := by
    revert c k; decide
  rw [h]
  split <;> rfl

/-! ## A block of a tile -/

/-- Block `j` of the 32 rows at `p` of a tile. -/
def IsBlk (X : (Sh 256).Idx → EReal) (p : ℕ) (j : Fin 16) (v : FVec Ideal S32x128 .bf16) : Prop :=
  ∃ hp : p + 32 ≤ 256, ∀ (r : Fin 32) (k : Fin 128), v (ix2 r k) = X (ix2 ⟨p + r.val, by omega⟩ (colB j k))

/-- A column of block `j` lies in block `j`. -/
theorem blkOf_colB (j : Fin 16) (k : Fin 128) : blkOf (colB j k) = j := by
  apply Fin.ext; simp only [blkOf, colB]; omega

/-- The exponents of a block are the tile's. -/
theorem IsBlk.expo {X : (Sh 256).Idx → EReal} {p : ℕ} {j : Fin 16} {v : FVec Ideal S32x128 .bf16} (h : IsBlk X p j v) (r : Fin 32) :
    eOf (qOf fun k => v (ix2 r k)) = Val.expo X ⟨p + r.val, by have := h.1; omega⟩ j := by
  simp only [Val.expo, h.2]

/-- The codes of a block are the tile's. -/
theorem IsBlk.codes {X : (Sh 256).Idx → EReal} {p : ℕ} {j : Fin 16} {v : FVec Ideal S32x128 .bf16} (h : IsBlk X p j v)
    (r : Fin 32) (k : Fin 128) : bcodes v (ix2 r k) = codesT X (ix2 ⟨p + r.val, by have := h.1; omega⟩ (colB j k)) := by
  rw [bcodes_apply, h.expo, h.2]
  show _ = min _ (max _ (_ * FloatOps.exp2 (F := Ideal) (φ := .f32) (0 - Val.expo X _ (blkOf (colB j k)))))
  rw [blkOf_colB]
  rfl

/-- The dequantised values of a block are the tile's. -/
theorem IsBlk.deq {X : (Sh 256).Idx → EReal} {p : ℕ} {j : Fin 16} {v : FVec Ideal S32x128 .bf16} (h : IsBlk X p j v)
    (r : Fin 32) (k : Fin 128) : bdeq v (ix2 r k) = deqT X (ix2 ⟨p + r.val, by have := h.1; omega⟩ (colB j k)) := by
  rw [bdeq_apply, h.codes, h.expo]
  show _ = _ * FloatOps.exp2 (F := Ideal) (φ := .f32) (Val.expo X _ (blkOf (colB j k)))
  rw [blkOf_colB]
  rfl

/-- A load of 32 rows and 128 columns of a tile is a block. -/
theorem isBlk_load (X : (Sh 256).Idx → EReal) (o : Fin 2 → ℕ) (ho) (j : Fin 16) (hj : o 1 = 128 * j.val) :
    IsBlk X (o 0) j (fun x => X ((Rect.unit (s := S256x2048) o S32x128.size ho).toLoadRect.idx x)) := by
  have h0 := ho 0
  refine ⟨h0, fun r k => congrArg X (funext fun a => ?_)⟩
  match a with
  | 0 => exact Fin.ext (by show o 0 + 1 * r.val = _; simp only [Nat.one_mul]; rfl)
  | 1 => exact Fin.ext (by show o 1 + 1 * k.val = _; simp only [Nat.one_mul, hj]; rfl)

/-! ## What the kernel stores, against the tile -/

/-- The codes of a block, stored at `o`, agree with every array `G` that holds the codes of the tile in those rows. -/
theorem codes_piece {n : ℕ} (X : (Sh 256).Idx → EReal) (G : (Sh n).Idx → EReal) (o : Fin 2 → ℕ) (ho) (p : ℕ) (j : Fin 16)
    (v : FVec Ideal S32x128 .bf16) (hv : IsBlk X p j v) (hj : o 1 = 128 * j.val)
    (hG : ∀ (r : Fin n) (r' : Fin 256) (c : Fin 2048), r.val + p = o 0 + r'.val → o 0 ≤ r.val → r.val < o 0 + 32 →
      G (ix2 r c) = codesT X (ix2 r' c))
    (x : S32x128.Idx) : bcodes v x = G ((Rect.unit (s := Sh n) o S32x128.size ho).emb x) := by
  have h0 : o 0 + 32 ≤ n := ho 0
  have hp := hv.1
  have hx : x = ix2 (x 0) (x 1) := funext fun a => by match a with | 0 => rfl | 1 => rfl
  have hlt : (x 0).val < 32 := (x 0).isLt
  have he : (Rect.unit (s := Sh n) o S32x128.size ho).emb x
      = ix2 ⟨o 0 + (x 0).val, by omega⟩ (colB j (x 1)) := funext fun a => by
    match a with
    | 0 => exact Fin.ext (by show o 0 + 1 * (x 0).val = _; simp only [Nat.one_mul]; rfl)
    | 1 => exact Fin.ext (by show o 1 + 1 * (x 1).val = _; simp only [Nat.one_mul, hj]; rfl)
  rw [he, hG ⟨o 0 + (x 0).val, by omega⟩ ⟨p + (x 0).val, by omega⟩ _ (by show o 0 + (x 0).val + p = o 0 + (p + (x 0).val); omega)
    (by show o 0 ≤ o 0 + (x 0).val; omega) (by show o 0 + (x 0).val < o 0 + 32; omega)]
  conv_lhs => rw [hx]
  exact hv.codes _ _

/-- The dequantised values of a block, stored where the block was loaded, agree with those of the tile. -/
theorem deq_piece (X : (Sh 256).Idx → EReal) (o : Fin 2 → ℕ) (ho) (j : Fin 16)
    (v : FVec Ideal S32x128 .bf16) (hv : IsBlk X (o 0) j v) (hj : o 1 = 128 * j.val)
    (x : S32x128.Idx) : bdeq v x = deqT X ((Rect.unit (s := Sh 256) o S32x128.size ho).emb x) := by
  have hp := hv.1
  have hx : x = ix2 (x 0) (x 1) := funext fun a => by match a with | 0 => rfl | 1 => rfl
  have hlt : (x 0).val < 32 := (x 0).isLt
  have he : (Rect.unit (s := Sh 256) o S32x128.size ho).emb x
      = ix2 ⟨o 0 + (x 0).val, by omega⟩ (colB j (x 1)) := funext fun a => by
    match a with
    | 0 => exact Fin.ext (by show o 0 + 1 * (x 0).val = _; simp only [Nat.one_mul]; rfl)
    | 1 => exact Fin.ext (by show o 1 + 1 * (x 1).val = _; simp only [Nat.one_mul, hj]; rfl)
  rw [he]
  conv_lhs => rw [hx]
  exact hv.deq _ _

/-- The scales of 32 rows, block by block. -/
def bscales (v : Fin 16 → FVec Ideal S32x128 .bf16) : FVec Ideal S32x16 .f32 :=
  bsel 15#32 (v 15) <| bsel 14#32 (v 14) <| bsel 13#32 (v 13) <| bsel 12#32 (v 12) <| bsel 11#32 (v 11) <| bsel 10#32 (v 10) <|
  bsel 9#32 (v 9) <| bsel 8#32 (v 8) <| bsel 7#32 (v 7) <| bsel 6#32 (v 6) <| bsel 5#32 (v 5) <| bsel 4#32 (v 4) <|
  bsel 3#32 (v 3) <| bsel 2#32 (v 2) <| bsel 1#32 (v 1) <| bsel 0#32 (v 0) <| broadcast S32x16 (Scalar.ofBits .f32 0x00000000#32)

/-- Lane `c` of row `r` is the scale of that row in block `c`. -/
theorem bscales_apply (v : Fin 16 → FVec Ideal S32x128 .bf16) (r : Fin 32) (c : Fin 16) :
    bscales v (ix2 r c) = FloatOps.exp2 (F := Ideal) (φ := .f32) (eOf (qOf fun k => v c (ix2 r k))) := by
  have hb : ∀ (k : Fin 16) (v : FVec Ideal S32x128 .bf16) (acc : FVec Ideal S32x16 .f32),
      bsel (BitVec.ofNat 32 k.val) v acc (ix2 r c)
        = if c = k then FloatOps.exp2 (F := Ideal) (φ := .f32) (eOf (qOf fun k => v (ix2 r k))) else acc (ix2 r c) :=
    fun k v acc => bsel_apply k v acc r c
  unfold bscales
  refine (hb 15 _ _).trans ?_
  split
  · next h => rw [h]
  refine (hb 14 _ _).trans ?_
  split
  · next h => rw [h]
  refine (hb 13 _ _).trans ?_
  split
  · next h => rw [h]
  refine (hb 12 _ _).trans ?_
  split
  · next h => rw [h]
  refine (hb 11 _ _).trans ?_
  split
  · next h => rw [h]
  refine (hb 10 _ _).trans ?_
  split
  · next h => rw [h]
  refine (hb 9 _ _).trans ?_
  split
  · next h => rw [h]
  refine (hb 8 _ _).trans ?_
  split
  · next h => rw [h]
  refine (hb 7 _ _).trans ?_
  split
  · next h => rw [h]
  refine (hb 6 _ _).trans ?_
  split
  · next h => rw [h]
  refine (hb 5 _ _).trans ?_
  split
  · next h => rw [h]
  refine (hb 4 _ _).trans ?_
  split
  · next h => rw [h]
  refine (hb 3 _ _).trans ?_
  split
  · next h => rw [h]
  refine (hb 2 _ _).trans ?_
  split
  · next h => rw [h]
  refine (hb 1 _ _).trans ?_
  split
  · next h => rw [h]
  refine (hb 0 _ _).trans ?_
  split
  · next h => rw [h]
  · exfalso; omega

/-- The scales of 32 rows, stored at `o`, agree with every array `G` that holds the scales of the tile in those rows. -/
theorem scales_piece {n : ℕ} (X : (Sh 256).Idx → EReal) (G : (Sc n).Idx → EReal) (o : Fin 2 → ℕ) (ho) (p : ℕ)
    (v : Fin 16 → FVec Ideal S32x128 .bf16) (hv : ∀ j, IsBlk X p j (v j)) (h1 : o 1 = 0)
    (hG : ∀ (r : Fin n) (r' : Fin 256) (c : Fin 16), r.val + p = o 0 + r'.val → o 0 ≤ r.val → r.val < o 0 + 32 →
      G (ix2 r c) = scalesT X (ix2 r' c))
    (x : S32x16.Idx) : bscales v x = G ((Rect.unit (s := Sc n) o S32x16.size ho).emb x) := by
  have h0 : o 0 + 32 ≤ n := ho 0
  have hp := (hv 0).1
  have hx : x = ix2 (x 0) (x 1) := funext fun a => by match a with | 0 => rfl | 1 => rfl
  have hlt : (x 0).val < 32 := (x 0).isLt
  have he : (Rect.unit (s := Sc n) o S32x16.size ho).emb x
      = ix2 ⟨o 0 + (x 0).val, by omega⟩ (x 1) := funext fun a => by
    match a with
    | 0 => exact Fin.ext (by show o 0 + 1 * (x 0).val = _; simp only [Nat.one_mul]; rfl)
    | 1 => exact Fin.ext (by show o 1 + 1 * (x 1).val = _; simp only [Nat.one_mul, h1, Nat.zero_add]; rfl)
  rw [he]
  refine Eq.trans ?_ (hG ⟨o 0 + (x 0).val, by omega⟩ ⟨p + (x 0).val, by omega⟩ _ (by show o 0 + (x 0).val + p = o 0 + (p + (x 0).val); omega)
    (by show o 0 ≤ o 0 + (x 0).val; omega) (by show o 0 + (x 0).val < o 0 + 32; omega)).symm
  conv_lhs => rw [hx]
  refine (bscales_apply v _ _).trans ?_
  exact congrArg (FloatOps.exp2 (F := Ideal) (φ := .f32)) ((hv (x 1)).expo (x 0))

end Cert.KernelIdeal.Val

end
-- ==== Proof.Piece.lean ====
/- What the kernel stores of one 32-row, 128-column block of a staged tile: the blocks it loads, the values it stores. -/
module

public import proofs.«01_k».proof.Proof.Block

@[expose] public section

set_option maxRecDepth 16384

noncomputable section

namespace Cert.KernelIdeal.Val

open Idealize.ShloMosaic Facts₀ Facts

/-- The 32 rows at `p`, 128 columns at `q` of a tile held in a buffer, as loaded. -/
def ld (a : Memref sig .tc .vmem S256x2048 .bf16) (f : BufTy.Contents (Elt Ideal) a.view.ty) (p q : ℕ)
    (hl : ∀ k, ![p, q] k + S32x128.size k ≤ S256x2048.size k) : FVec Ideal S32x128 .bf16 :=
  View.readAt (Elt Ideal) a.view (Rect.unit (s := S256x2048) ![p, q] S32x128.size hl).toLoadRect f

/-- What is loaded is a block of the tile. -/
theorem isBlk_ld (a : Memref sig .tc .vmem S256x2048 .bf16) (f : BufTy.Contents (Elt Ideal) a.view.ty) (X : S256x2048.Idx → EReal)
    (hf : a.view.read (Elt Ideal) f = X) (p q : ℕ) (hl) (j : Fin 16) (hq : q = 128 * j.val) : IsBlk X p j (ld a f p q hl) := by
  have h := isBlk_load X ![p, q] hl j hq
  subst hf
  exact h

/-- One more store that agrees with `G`, put before stores that do. -/
theorem cons_pieces {s : Shape} {φ : EltTy} (G : s.Idx → Elt Ideal φ) (r : Rect s) (v : r.shape.Idx → Elt Ideal φ)
    (L : List (View.Piece (Elt Ideal) s φ)) (h : ∀ x, v x = G (r.emb x)) (t : View.PiecesOf G L) : View.PiecesOf G (⟨r, v⟩ :: L) := ⟨h, t⟩

/-- The block loaded `d` rows above a stored block lies within the tile. -/
theorem inb_of {n : ℕ} (o : Fin 2 → ℕ) (ho : ∀ k, o k + S32x128.size k ≤ (Sh n).size k) (d : ℕ) (hn : n = 256 + d) (hd : d ≤ o 0) :
    ∀ k, ![o 0 - d, o 1] k + S32x128.size k ≤ S256x2048.size k := fun k => by
  have h0 : o 0 + 32 ≤ n := ho 0
  match k with
  | 0 => show o 0 - d + 32 ≤ 256; omega
  | 1 => exact ho 1

/-- The codes stored at `o`, of the block loaded from the same columns and `d` rows above. -/
theorem codes_goal {n : ℕ} (X : S256x2048.Idx → EReal) (G : (Sh n).Idx → EReal) (d : ℕ) (hn : n = 256 + d)
    (HG : ∀ (r : Fin n) (r' : Fin 256) (c : Fin 2048), r.val = r'.val + d → G (ix2 r c) = codesT X (ix2 r' c))
    (a : Memref sig .tc .vmem S256x2048 .bf16) (f : BufTy.Contents (Elt Ideal) a.view.ty) (hf : a.view.read (Elt Ideal) f = X)
    (o : Fin 2 → ℕ) (ho) (hd : d ≤ o 0) (h1 : o 1 = 128 * (o 1 / 128)) (hj : o 1 / 128 < 16) (h) (w : FVec Ideal S32x128 .fp8e4m3)
    (hw : w = bcodes (shapeCast S32x128 (ld a f (o 0 - d) (o 1) (inb_of o ho d hn hd)) h)) (x : S32x128.Idx) :
    w x = G ((Rect.unit (s := Sh n) o S32x128.size ho).emb x) := by
  rw [hw, shapeCast_self]
  exact codes_piece X G o ho (o 0 - d) ⟨o 1 / 128, hj⟩ _ (isBlk_ld a f X hf (o 0 - d) (o 1) _ ⟨o 1 / 128, hj⟩ h1) h1
    (fun r r' c e _ _ => HG r r' c (by omega)) x

/-- The dequantised values stored at `o`, of the block loaded from the same place. -/
theorem deq_goal (X : S256x2048.Idx → EReal)
    (a : Memref sig .tc .vmem S256x2048 .bf16) (f : BufTy.Contents (Elt Ideal) a.view.ty) (hf : a.view.read (Elt Ideal) f = X)
    (o : Fin 2 → ℕ) (ho) (h1 : o 1 = 128 * (o 1 / 128)) (hj : o 1 / 128 < 16) (h h') (w : FVec Ideal S32x128 .bf16)
    (hw : w = shapeCast S32x128 (bdeq (shapeCast S32x128 (ld a f (o 0 - 0) (o 1) (inb_of (n := 256) o ho 0 rfl (Nat.zero_le _))) h)) h')
    (x : S32x128.Idx) : w x = deqT X ((Rect.unit (s := Sh 256) o S32x128.size ho).emb x) := by
  rw [hw, shapeCast_self, shapeCast_self]
  exact deq_piece X o ho ⟨o 1 / 128, hj⟩ _ (isBlk_ld a f X hf (o 0) (o 1) _ ⟨o 1 / 128, hj⟩ h1) h1 x

/-- The same with the stored value re-laid in its own shape. -/
theorem codes_goal' {n : ℕ} (X : S256x2048.Idx → EReal) (G : (Sh n).Idx → EReal) (d : ℕ) (hn : n = 256 + d)
    (HG : ∀ (r : Fin n) (r' : Fin 256) (c : Fin 2048), r.val = r'.val + d → G (ix2 r c) = codesT X (ix2 r' c))
    (a : Memref sig .tc .vmem S256x2048 .bf16) (f : BufTy.Contents (Elt Ideal) a.view.ty) (hf : a.view.read (Elt Ideal) f = X)
    (o : Fin 2 → ℕ) (ho) (hd : d ≤ o 0) (h1 : o 1 = 128 * (o 1 / 128)) (hj : o 1 / 128 < 16) (h h') (w : FVec Ideal S32x128 .fp8e4m3)
    (hw : w = shapeCast S32x128 (bcodes (shapeCast S32x128 (ld a f (o 0 - d) (o 1) (inb_of o ho d hn hd)) h)) h') (x : S32x128.Idx) :
    w x = G ((Rect.unit (s := Sh n) o S32x128.size ho).emb x) :=
  codes_goal X G d hn HG a f hf o ho hd h1 hj h w (hw.trans (shapeCast_self _ _)) x

/-- The blocks loaded `d` rows above stored scales lie within the tile. -/
theorem inb_of16 {n : ℕ} (o : Fin 2 → ℕ) (ho : ∀ k, o k + S32x16.size k ≤ (Sc n).size k) (d : ℕ) (hn : n = 256 + d) (hd : d ≤ o 0)
    (j : Fin 16) : ∀ k, ![o 0 - d, 128 * j.val] k + S32x128.size k ≤ S256x2048.size k := fun k => by
  have h0 : o 0 + 32 ≤ n := ho 0
  match k with
  | 0 => show o 0 - d + 32 ≤ 256; omega
  | 1 => show 128 * j.val + 128 ≤ 2048; omega

/-- The scales stored at `o`, of the blocks loaded `d` rows above. -/
theorem scales_goal {n : ℕ} (X : S256x2048.Idx → EReal) (G : (Sc n).Idx → EReal) (d : ℕ) (hn : n = 256 + d)
    (HG : ∀ (r : Fin n) (r' : Fin 256) (c : Fin 16), r.val = r'.val + d → G (ix2 r c) = scalesT X (ix2 r' c))
    (a : Memref sig .tc .vmem S256x2048 .bf16) (f : BufTy.Contents (Elt Ideal) a.view.ty) (hf : a.view.read (Elt Ideal) f = X)
    (o : Fin 2 → ℕ) (ho) (hd : d ≤ o 0) (h1 : o 1 = 0) (h) (w : FVec Ideal S32x16 .f32)
    (hw : w = bscales fun j => shapeCast S32x128 (ld a f (o 0 - d) (128 * j.val) (inb_of16 o ho d hn hd j)) h) (x : S32x16.Idx) :
    w x = G ((Rect.unit (s := Sc n) o S32x16.size ho).emb x) := by
  rw [hw]
  exact scales_piece X G o ho (o 0 - d) _ (fun j => by rw [shapeCast_self]; exact isBlk_ld a f X hf (o 0 - d) (128 * j.val) _ j rfl) h1
    (fun r r' c e _ _ => HG r r' c (by omega)) x

/-- The same with the stored value re-laid in its own shape. -/
theorem scales_goal' {n : ℕ} (X : S256x2048.Idx → EReal) (G : (Sc n).Idx → EReal) (d : ℕ) (hn : n = 256 + d)
    (HG : ∀ (r : Fin n) (r' : Fin 256) (c : Fin 16), r.val = r'.val + d → G (ix2 r c) = scalesT X (ix2 r' c))
    (a : Memref sig .tc .vmem S256x2048 .bf16) (f : BufTy.Contents (Elt Ideal) a.view.ty) (hf : a.view.read (Elt Ideal) f = X)
    (o : Fin 2 → ℕ) (ho) (hd : d ≤ o 0) (h1 : o 1 = 0) (h h') (w : FVec Ideal S32x16 .f32)
    (hw : w = shapeCast S32x16 (bscales fun j => shapeCast S32x128 (ld a f (o 0 - d) (128 * j.val) (inb_of16 o ho d hn hd j)) h) h')
    (x : S32x16.Idx) : w x = G ((Rect.unit (s := Sc n) o S32x16.size ho).emb x) :=
  scales_goal X G d hn HG a f hf o ho hd h1 h w (hw.trans (shapeCast_self _ _)) x

/-- Codes of the same rows. -/
theorem codes_same (X : S256x2048.Idx → EReal) (r r' : Fin 256) (c : Fin 2048) (h : r.val = r'.val + 0) :
    codesT X (ix2 r c) = codesT X (ix2 r' c) := by rw [show r = r' from Fin.ext h]

/-- Scales of the same rows. -/
theorem scales_same (X : S256x2048.Idx → EReal) (r r' : Fin 256) (c : Fin 16) (h : r.val = r'.val + 0) :
    scalesT X (ix2 r c) = scalesT X (ix2 r' c) := by rw [show r = r' from Fin.ext h]

/-- Rows 0 to 255 of one tile over rows 0 to 255 of another. -/
def two {n m : ℕ} (A B : (⟨2, ![256, n]⟩ : Shape).Idx → EReal) (y : (⟨2, ![m, n]⟩ : Shape).Idx) : EReal :=
  if h : (y 0).val < 256 then A (ix2 ⟨(y 0).val, h⟩ (y 1)) else B (ix2 ⟨((y 0).val - 256) % 256, Nat.mod_lt _ (by decide)⟩ (y 1))

/-- Row 256 and those after it are the second tile. -/
theorem two_hi {n m : ℕ} (A B : (⟨2, ![256, n]⟩ : Shape).Idx → EReal)
    (r : Fin m) (r' : Fin 256) (c : Fin n) (h : r.val = r'.val + 256) : two A B (ix2 r c) = B (ix2 r' c) := by
  have hn : ¬ r.val < 256 := by omega
  refine (dif_neg hn).trans (congrArg (fun q => B (ix2 q c)) (Fin.ext ?_))
  show (r.val - 256) % 256 = r'.val
  omega

/-- Rows 0 to 255 are the first tile. -/
theorem two_lo {n m : ℕ} (A B : (⟨2, ![256, n]⟩ : Shape).Idx → EReal)
    (r : Fin m) (r' : Fin 256) (c : Fin n) (h : r.val = r'.val) : two A B (ix2 r c) = A (ix2 r' c) := by
  have hn : r.val < 256 := by omega
  exact (dif_pos hn).trans (congrArg (fun q => A (ix2 q c)) (Fin.ext h))

/-- The tile before, copied to the first 256 rows. -/
theorem copy_goal {n m : ℕ} (A B : (⟨2, ![256, n]⟩ : Shape).Idx → EReal) (o : Fin 2 → ℕ)
    (ho : ∀ k, o k + (⟨2, ![256, n]⟩ : Shape).size k ≤ (⟨2, ![m, n]⟩ : Shape).size k) (h0 : o 0 = 0) (h1 : o 1 = 0)
    (w : (⟨2, ![256, n]⟩ : Shape).Idx → EReal) (hw : w = A) (x : (⟨2, ![256, n]⟩ : Shape).Idx) :
    w x = two A B ((Rect.unit (s := ⟨2, ![m, n]⟩) o (⟨2, ![256, n]⟩ : Shape).size ho).emb x) := by
  have hm : o 0 + 256 ≤ m := ho 0
  have hlt : (x 0).val < 256 := (x 0).isLt
  have he : (Rect.unit (s := ⟨2, ![m, n]⟩) o (⟨2, ![256, n]⟩ : Shape).size ho).emb x
      = ix2 ⟨(x 0).val, by omega⟩ (x 1) := funext fun a => by
    match a with
    | 0 => exact Fin.ext (by show o 0 + 1 * (x 0).val = _; simp only [Nat.one_mul, h0, Nat.zero_add]; rfl)
    | 1 => exact Fin.ext (by show o 1 + 1 * (x 1).val = _; simp only [Nat.one_mul, h1, Nat.zero_add]; rfl)
  rw [he, hw]
  refine Eq.trans ?_ (two_lo A B _ ⟨(x 0).val, hlt⟩ (x 1) rfl).symm
  exact congrArg A (funext fun a => by match a with | 0 => rfl | 1 => rfl)

/-- A buffer loaded whole is what it holds. -/
theorem read_whole {n m : ℕ} {φ : EltTy} (a : Memref sig .tc .vmem ⟨2, ![n, m]⟩ φ) (ha : a.IsWhole)
    (X : (⟨2, ![n, m]⟩ : Shape).Idx → Elt Ideal φ) (o : Fin 2 → ℕ)
    (ho : ∀ k, o k + (⟨2, ![n, m]⟩ : Shape).size k ≤ (⟨2, ![n, m]⟩ : Shape).size k) (h0 : o 0 = 0) (h1 : o 1 = 0) :
    View.readAt (Elt Ideal) a.view (Rect.unit (s := ⟨2, ![n, m]⟩) o (⟨2, ![n, m]⟩ : Shape).size ho).toLoadRect (ha.unread X) = X := by
  funext x
  refine (congrFun (ha.read_unread X) _).trans (congrArg X (funext fun k => ?_))
  match k with
  | 0 => exact Fin.ext (by show o 0 + 1 * (x 0).val = _; simp only [Nat.one_mul, h0, Nat.zero_add])
  | 1 => exact Fin.ext (by show o 1 + 1 * (x 1).val = _; simp only [Nat.one_mul, h1, Nat.zero_add])

end Cert.KernelIdeal.Val

end
-- ==== Proof.LoopA.lean ====
/- The prologue of the first step: the loop that quantises the first tile, 32 rows a trip. -/
module

public import proofs.«01_k».proof.Proof.Piece
public import proofs.«01_k».proof.Proof.Gen.KernelIdeal.Frame

@[expose] public section

set_option maxRecDepth 16384

noncomputable section

namespace Cert.KernelIdeal.Val

open Idealize.ShloMosaic Facts₀ Facts Cert.KernelIdeal.Gen

/-- As `deq_goal`, of the block as loaded. -/
theorem deq_goal2 (X : S256x2048.Idx → EReal)
    (a : Memref sig .tc .vmem S256x2048 .bf16) (f : BufTy.Contents (Elt Ideal) a.view.ty) (hf : a.view.read (Elt Ideal) f = X)
    (o : Fin 2 → ℕ) (ho) (h1 : o 1 = 128 * (o 1 / 128)) (hj : (o 1 / 128).blt 16 = true) (h') (w : FVec Ideal S32x128 .bf16)
    (hw : w = shapeCast S32x128 (bdeq (ld a f (o 0 - 0) (o 1) (inb_of (n := 256) o ho 0 rfl (Nat.zero_le _)))) h')
    (x : S32x128.Idx) : w x = deqT X ((Rect.unit (s := Sh 256) o S32x128.size ho).emb x) :=
  deq_goal X a f hf o ho h1 (of_decide_eq_true (by simpa [Nat.blt] using hj)) rfl h' w (by rw [hw, shapeCast_self (ld _ _ _ _ _)]) x

/-- As `codes_goal'`, of the block as loaded from the same place. -/
theorem codes_goal2 (X : S256x2048.Idx → EReal)
    (a : Memref sig .tc .vmem S256x2048 .bf16) (f : BufTy.Contents (Elt Ideal) a.view.ty) (hf : a.view.read (Elt Ideal) f = X)
    (o : Fin 2 → ℕ) (ho) (h1 : o 1 = 128 * (o 1 / 128)) (hj : (o 1 / 128).blt 16 = true) (h') (w : FVec Ideal S32x128 .fp8e4m3)
    (hw : w = shapeCast S32x128 (bcodes (ld a f (o 0 - 0) (o 1) (inb_of (n := 256) o ho 0 rfl (Nat.zero_le _)))) h') (x : S32x128.Idx) :
    w x = codesT X ((Rect.unit (s := Sh 256) o S32x128.size ho).emb x) :=
  codes_goal' (n := 256) X _ 0 rfl (codes_same X) a f hf o ho (Nat.zero_le _) h1 (of_decide_eq_true (by simpa [Nat.blt] using hj)) rfl h' w
    (by rw [hw, shapeCast_self (ld _ _ _ _ _)]) x

/-- As `scales_goal'`, of the blocks as loaded from the same rows. -/
theorem scales_goal2 (X : S256x2048.Idx → EReal)
    (a : Memref sig .tc .vmem S256x2048 .bf16) (f : BufTy.Contents (Elt Ideal) a.view.ty) (hf : a.view.read (Elt Ideal) f = X)
    (o : Fin 2 → ℕ) (ho) (h1 : o 1 = 0) (h') (w : FVec Ideal S32x16 .f32)
    (hw : w = shapeCast S32x16 (bscales fun j => ld a f (o 0 - 0) (128 * j.val) (inb_of16 (n := 256) o ho 0 rfl (Nat.zero_le _) j)) h')
    (x : S32x16.Idx) : w x = scalesT X ((Rect.unit (s := Sc 256) o S32x16.size ho).emb x) :=
  scales_goal' (n := 256) X _ 0 rfl (scales_same X) a f hf o ho (Nat.zero_le _) h1 rfl h' w
    (by rw [hw]; simp only [shapeCast_self]) x

/-- Two lists of stores that agree with `G` agree with it one after the other. -/
theorem app_pieces {s : Shape} {φ : EltTy} (G : s.Idx → Elt Ideal φ) : ∀ L L' : List (View.Piece (Elt Ideal) s φ),
    View.PiecesOf G L → View.PiecesOf G L' → View.PiecesOf G (L ++ L')
  | [], _, _, t => t
  | _ :: L, L', h, t => ⟨h.1, app_pieces G L L' h.2 t⟩

attribute [local irreducible] shapeCast extf truncf minimumf maximumf mulf absf multiReduction subf addf divf log exp2 floor select cmpf
  broadcast broadcastTo cmpi iota

variable (𝒱 : Variants) (c : Dev nD) (bd : Option 𝒱.V) (i : grid0.Coords) (arg1 : Memref sig .tc .hbm S24576x2048 .bf16)
  (harg1 : arg1.IsWhole) (arg2 : Memref sig .tc .hbm S2048x5632 .fp8e4m3) (harg2 : arg2.IsWhole)
  (arg3 : Memref sig .tc .vmem S1x5632 .f32) (harg3 : arg3.IsWhole) (arg4 : Memref sig .tc .vmem S256x2048 .bf16)
  (harg4 : arg4.IsWhole) (arg5 : Memref sig .tc .vmem S256x2048 .bf16) (harg5 : arg5.IsWhole)
  (arg6 : Memref sig .tc .vmem S512x5632 .fp8e4m3) (harg6 : arg6.IsWhole) (arg7 : Memref sig .tc .vmem S256x2x5632 .bf16)
  (harg7 : arg7.IsWhole) (arg8 : Memref sig .tc .vmem S512x2048 .fp8e4m3) (harg8 : arg8.IsWhole)
  (arg9 : Memref sig .tc .vmem S512x16 .f32) (harg9 : arg9.IsWhole) (arg10 : Memref sig .tc .vmem S8x128 .f32)
  (harg10 : arg10.IsWhole) (arg11 : Memref sig .tc .vmem S8x128 .i32) (harg11 : arg11.IsWhole)
  (arg12 : Memref sig .tc .vmem S2048x5632 .fp8e4m3) (harg12 : arg12.IsWhole) (arg13 : Memref sig .tc .vmem S256x2048 .bf16)
  (harg13 : arg13.IsWhole) (arg14 : Memref sig .tc .vmem S256x2048 .bf16) (harg14 : arg14.IsWhole)
  (arg15 : Memref sig .tc .vmem S256x2048 .fp8e4m3) (harg15 : arg15.IsWhole) (arg16 : Memref sig .tc .vmem S256x16 .f32)
  (harg16 : arg16.IsWhole) (arg17 : Memref sig .tc .vmem S256x2048 .bf16) (harg17 : arg17.IsWhole) (arg18 : DmaSems sig S_)
  (arg19 : DmaSems sig S_) (k0_h1 : k0_cond1 i = 1#1) (X_arg17 : BufTy.Contents (Elt Ideal) arg17.view.ty)
  (k : Fin k0_t1_loop.trips)

/-- The dequantised values one trip stores. -/
theorem trip_deq (X : S256x2048.Idx → EReal) (hX : arg17.view.read (Elt Ideal) X_arg17 = X) :
    View.PiecesOf (Val := Elt Ideal) (e := .bf16) (deqT X) (trip_k0_t1 (F := Ideal)  𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      arg19 k0_h1 X_arg17 k).1 := by
  unfold trip_k0_t1
  dsimp only
  iterate 16 refine cons_pieces _ _ _ _ (deq_goal2 X arg17 X_arg17 hX _ _ (by sl_kernel_rfl) (by sl_kernel_rfl) Gen.shapeCasts_S32x128_S32x128 _ (by rfl)) ?_
  exact trivial

/-- The codes one trip stores. -/
theorem trip_codes (X : S256x2048.Idx → EReal) (hX : arg17.view.read (Elt Ideal) X_arg17 = X) :
    View.PiecesOf (Val := Elt Ideal) (e := .fp8e4m3) (codesT X) (trip_k0_t1 (F := Ideal)  𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      arg19 k0_h1 X_arg17 k).2.1 := by
  unfold trip_k0_t1
  dsimp only
  iterate 16 refine cons_pieces _ _ _ _ (codes_goal2 X arg17 X_arg17 hX _ _ (by sl_kernel_rfl) (by sl_kernel_rfl) Gen.shapeCasts_S32x128_S32x128 _ (by rfl)) ?_
  exact trivial

/-- The scales one trip stores. -/
theorem trip_scales (X : S256x2048.Idx → EReal) (hX : arg17.view.read (Elt Ideal) X_arg17 = X) :
    View.PiecesOf (Val := Elt Ideal) (e := .f32) (scalesT X) (trip_k0_t1 (F := Ideal)  𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      arg19 k0_h1 X_arg17 k).2.2.1 := by
  unfold trip_k0_t1
  dsimp only
  iterate 1 refine cons_pieces _ _ _ _ (scales_goal2 X arg17 X_arg17 hX _ _ (by rfl) Gen.shapeCasts_S32x16_S32x16 _ (by rfl)) ?_
  exact trivial

/-- What the trips before `n` store. -/
theorem loop_deq (X : S256x2048.Idx → EReal) (hX : arg17.view.read (Elt Ideal) X_arg17 = X) : ∀ n : ℕ, n ≤ k0_t1_loop.trips →
    View.PiecesOf (Val := Elt Ideal) (e := .bf16) (deqT X) (pb_k0_t1 (F := Ideal)  𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      arg19 k0_h1 X_arg17 n).1
  | 0, _ => trivial
  | n + 1, h => by
    rw [pb_k0_t1_succ  𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      arg19 k0_h1 X_arg17 ⟨n, h⟩]
    exact app_pieces _ _ _ (trip_deq  𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      arg19 k0_h1 X_arg17 ⟨n, h⟩ X hX) (loop_deq X hX n (Nat.le_of_succ_le h))

/-- What the trips before `n` store. -/
theorem loop_codes (X : S256x2048.Idx → EReal) (hX : arg17.view.read (Elt Ideal) X_arg17 = X) : ∀ n : ℕ, n ≤ k0_t1_loop.trips →
    View.PiecesOf (Val := Elt Ideal) (e := .fp8e4m3) (codesT X) (pb_k0_t1 (F := Ideal)  𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      arg19 k0_h1 X_arg17 n).2.1
  | 0, _ => trivial
  | n + 1, h => by
    rw [pb_k0_t1_succ  𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      arg19 k0_h1 X_arg17 ⟨n, h⟩]
    exact app_pieces _ _ _ (trip_codes  𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      arg19 k0_h1 X_arg17 ⟨n, h⟩ X hX) (loop_codes X hX n (Nat.le_of_succ_le h))

/-- What the trips before `n` store. -/
theorem loop_scales (X : S256x2048.Idx → EReal) (hX : arg17.view.read (Elt Ideal) X_arg17 = X) : ∀ n : ℕ, n ≤ k0_t1_loop.trips →
    View.PiecesOf (Val := Elt Ideal) (e := .f32) (scalesT X) (pb_k0_t1 (F := Ideal)  𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      arg19 k0_h1 X_arg17 n).2.2
  | 0, _ => trivial
  | n + 1, h => by
    rw [pb_k0_t1_succ  𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      arg19 k0_h1 X_arg17 ⟨n, h⟩]
    exact app_pieces _ _ _ (trip_scales  𝒱 c bd i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      arg19 k0_h1 X_arg17 ⟨n, h⟩ X hX) (loop_scales X hX n (Nat.le_of_succ_le h))

end Cert.KernelIdeal.Val

end
-- ==== Proof.Amax.lean ====
/- The running maxima of the absolute products: what a tile adds to them. -/
module

public import proofs.«01_k».proof.Proof.Piece

@[expose] public section

set_option maxRecDepth 16384

noncomputable section

namespace Cert.KernelIdeal.Val

open Idealize.ShloMosaic Facts₀ Facts

/-- The product of a tile with 512 columns of the weights, times the columns' scales. -/
def ychunk (lhs : FVec Ideal S256x2048 .bf16) (w : FVec Ideal S2048x512 .fp8e4m3) (s : FVec Ideal S1x512 .f32) : FVec Ideal S256x512 .f32 :=
  mulf (matmul dot_S256x2048_S2048x512_S256x512_1_0_0_1_n_n none lhs w (constant S256x512 .f32 0x00000000#32))
    (broadcastTo S256x512 (shapeCast S1x512 s shapeCasts_S1x512_S1x512) broadcasts_S1x512_S256x512)

/-- Its absolute values' maxima over the rows of each residue modulo 8. -/
def cmax8 (lhs : FVec Ideal S256x2048 .bf16) (w : FVec Ideal S2048x512 .fp8e4m3) (s : FVec Ideal S1x512 .f32) : FVec Ideal S8x512 .f32 :=
  multiReduction .maximumf [0] S8x512 (shapeCast S32x8x512 (absf (ychunk lhs w s)) shapeCasts_S256x512_S32x8x512) 0xFF800000#32
    reduces_S32x8x512_S8x512 (.inl rfl) rfl

/-- And over the columns of each residue modulo 128. -/
def cmax (lhs : FVec Ideal S256x2048 .bf16) (w : FVec Ideal S2048x512 .fp8e4m3) (s : FVec Ideal S1x512 .f32) : FVec Ideal S8x128 .f32 :=
  maximumf (maximumf (maximumf
    (extractStridedSlice S8x128 ![0, 0] (cmax8 lhs w s) slices_S8x512_o0_0_S8x128)
    (extractStridedSlice S8x128 ![0, 128] (cmax8 lhs w s) slices_S8x512_o0_128_S8x128))
    (extractStridedSlice S8x128 ![0, 256] (cmax8 lhs w s) slices_S8x512_o0_256_S8x128))
    (extractStridedSlice S8x128 ![0, 384] (cmax8 lhs w s) slices_S8x512_o0_384_S8x128)

/-- The running maxima taken over a tile's products with the eleven column chunks. -/
def phaseL (a : FVec Ideal S8x128 .f32) (lhs : FVec Ideal S256x2048 .bf16) (w : Fin 11 → FVec Ideal S2048x512 .fp8e4m3)
    (s : Fin 11 → FVec Ideal S1x512 .f32) : FVec Ideal S8x128 .f32 :=
  maximumf (maximumf (maximumf (maximumf (maximumf (maximumf (maximumf (maximumf (maximumf (maximumf (maximumf (shapeCast S8x128 a shapeCasts_S8x128_S8x128) (cmax lhs (w 0) (s 0))) (cmax lhs (w 1) (s 1))) (cmax lhs (w 2) (s 2))) (cmax lhs (w 3) (s 3))) (cmax lhs (w 4) (s 4))) (cmax lhs (w 5) (s 5))) (cmax lhs (w 6) (s 6))) (cmax lhs (w 7) (s 7))) (cmax lhs (w 8) (s 8))) (cmax lhs (w 9) (s 9))) (cmax lhs (w 10) (s 10))

/-- Column chunk `j` lies within the weights. -/
theorem inbW (j : Fin 11) : ∀ k, ![0, 512 * j.val] k + S2048x512.size k ≤ S2048x5632.size k := fun k => by
  match k with
  | 0 => show 0 + 2048 ≤ 2048; omega
  | 1 => show 512 * j.val + 512 ≤ 5632; omega

/-- Column chunk `j` lies within the row of the columns' scales. -/
theorem inbS (j : Fin 11) : ∀ k, ![0, 512 * j.val] k + S1x512.size k ≤ S1x5632.size k := fun k => by
  match k with
  | 0 => show 0 + 1 ≤ 1; omega
  | 1 => show 512 * j.val + 512 ≤ 5632; omega

/-- Column chunk `j` of the weights, as loaded. -/
def wld (a : Memref sig .tc .vmem S2048x5632 .fp8e4m3) (f : BufTy.Contents (Elt Ideal) a.view.ty) (j : Fin 11) :
    FVec Ideal S2048x512 .fp8e4m3 :=
  View.readAt (Elt Ideal) a.view (Rect.unit (s := S2048x5632) ![0, 512 * j.val] S2048x512.size (inbW j)).toLoadRect f

/-- Column chunk `j` of the columns' scales, as loaded. -/
def sld (a : Memref sig .tc .vmem S1x5632 .f32) (f : BufTy.Contents (Elt Ideal) a.view.ty) (j : Fin 11) : FVec Ideal S1x512 .f32 :=
  View.readAt (Elt Ideal) a.view (Rect.unit (s := S1x5632) ![0, 512 * j.val] S1x512.size (inbS j)).toLoadRect f

/-- The whole of an array sends an index to itself. -/
theorem emb_whole {s : Shape} (y : s.Idx) : (Rect.whole s).emb y = y :=
  funext fun k => Fin.ext (by show 0 + 1 * (y k).val = _; omega)

/-- A buffer read whole after stores that agree with `G` and cover it holds `G`. -/
theorem readAt_pieces {n m : ℕ} {φ : EltTy} (a : Memref sig .tc .vmem ⟨2, ![n, m]⟩ φ) (L : List (View.Piece (Elt Ideal) ⟨2, ![n, m]⟩ φ))
    (G : (⟨2, ![n, m]⟩ : Shape).Idx → Elt Ideal φ) (hp : View.PiecesOf G L) (hc : ∀ y, ∃ p ∈ L, y ∈ p.1.set) (o : Fin 2 → ℕ)
    (ho : ∀ k, o k + (⟨2, ![n, m]⟩ : Shape).size k ≤ (⟨2, ![n, m]⟩ : Shape).size k) (h0 : o 0 = 0) (h1 : o 1 = 0) :
    View.readAt (Elt Ideal) a.view (Rect.unit (s := ⟨2, ![n, m]⟩) o (⟨2, ![n, m]⟩ : Shape).size ho).toLoadRect
      (a.view.writes (Elt Ideal) a.view.junk L) = G := by
  funext x
  refine (View.read_writes_apply_of_pieces a.view _ G L hp.mem _ (hc _)).trans (congrArg G (funext fun k => ?_))
  match k with
  | 0 => exact Fin.ext (by show o 0 + 1 * (x 0).val = _; simp only [Nat.one_mul, h0, Nat.zero_add])
  | 1 => exact Fin.ext (by show o 1 + 1 * (x 1).val = _; simp only [Nat.one_mul, h1, Nat.zero_add])

/-- A buffer written whole once holds what was written. -/
theorem read_one {s : Shape} {φ : EltTy} (a : Memref sig .tc .vmem s φ) (v : s.Idx → Elt Ideal φ) :
    a.view.read (Elt Ideal) (a.view.writes (Elt Ideal) a.view.junk [⟨Rect.whole s, v⟩]) = v := by
  funext y
  exact View.read_writes_apply_of_pieces a.view _ v [⟨Rect.whole s, v⟩]
    (fun p hp x => by obtain rfl := List.mem_singleton.mp hp; exact congrArg v (emb_whole x).symm) y
    ⟨_, List.mem_singleton.mpr rfl, (emb_whole y) ▸ (Rect.whole s).idx_mem y⟩

/-- After a store of the whole block, what is read through the whole block is what was stored. -/
theorem cov_cons {s : Shape} {φ : EltTy} (a : Memref sig .tc .vmem s φ) (r : Rect s) (w : r.shape.Idx → Elt Ideal φ)
    (L : List (View.Piece (Elt Ideal) s φ)) : a.view.readCov (⟨r, w⟩ :: L) r.toLoadRect = w :=
  funext fun x => View.read_writes_cons_emb a.view _ r w L x

/-- Stores whose last `n` agree with `G` and cover the block leave `G`. -/
theorem read_take {sp : Space} {s : Shape} {φ : EltTy} (v : View sig .tc sp s φ) (n : ℕ) (G : s.Idx → Elt Ideal φ)
    (L : List (View.Piece (Elt Ideal) s φ)) (hp : View.PiecesOf G (L.take n)) (hc : ∀ y, ∃ p ∈ L.take n, y ∈ p.1.set) :
    v.read (Elt Ideal) (v.writes (Elt Ideal) v.junk L) = G := by
  funext y
  rw [← List.take_append_drop n L, View.writes_append]
  exact View.read_writes_apply_of_pieces v _ G _ hp.mem y (hc y)

/-- A store of the whole block leaves what was stored. -/
theorem read_top {sp : Space} {n m : ℕ} {φ : EltTy} (v : View sig .tc sp ⟨2, ![n, m]⟩ φ) (o : Fin 2 → ℕ)
    (ho : ∀ k, o k + (⟨2, ![n, m]⟩ : Shape).size k ≤ (⟨2, ![n, m]⟩ : Shape).size k) (h0 : o 0 = 0) (h1 : o 1 = 0)
    (w : (⟨2, ![n, m]⟩ : Shape).Idx → Elt Ideal φ) (L : List (View.Piece (Elt Ideal) ⟨2, ![n, m]⟩ φ)) :
    v.read (Elt Ideal) (v.writes (Elt Ideal) v.junk (⟨Rect.unit (s := ⟨2, ![n, m]⟩) o (⟨2, ![n, m]⟩ : Shape).size ho, w⟩ :: L)) = w := by
  funext x
  refine Eq.trans (congrArg _ ?_) (View.read_writes_cons_emb v _ (Rect.unit (s := ⟨2, ![n, m]⟩) o (⟨2, ![n, m]⟩ : Shape).size ho) w L x)
  funext k
  match k with
  | 0 => exact Fin.ext (by show _ = o 0 + 1 * (x 0).val; simp only [Nat.one_mul, h0, Nat.zero_add])
  | 1 => exact Fin.ext (by show _ = o 1 + 1 * (x 1).val; simp only [Nat.one_mul, h1, Nat.zero_add])

/-- Columns `512 j` to `512 j + 511` of an array with 5632 columns. -/
def part {n : ℕ} {φ : EltTy} (W : (⟨2, ![n, 5632]⟩ : Shape).Idx → Elt Ideal φ) (j : Fin 11) (x : (⟨2, ![n, 512]⟩ : Shape).Idx) : Elt Ideal φ :=
  W (ix2 (x 0) ⟨512 * j.val + (x 1).val, by have h : (x 1).val < 512 := (x 1).isLt; omega⟩)

/-- The chunks loaded from a buffer that holds the weights are the chunks of the weights. -/
theorem wld_eq (a : Memref sig .tc .vmem S2048x5632 .fp8e4m3) (f : BufTy.Contents (Elt Ideal) a.view.ty)
    (W : S2048x5632.Idx → EReal) (h : a.view.read (Elt Ideal) f = W) : wld a f = part (n := 2048) (φ := .fp8e4m3) W := by
  funext j x
  subst h
  refine congrArg (a.view.read (Elt Ideal) f) (funext fun k => ?_)
  match k with
  | 0 => exact Fin.ext (by show 0 + 1 * (x 0).val = (x 0).val; omega)
  | 1 => exact Fin.ext (by show 512 * j.val + 1 * (x 1).val = 512 * j.val + (x 1).val; omega)

/-- The chunks loaded from a buffer that holds the columns' scales are the chunks of those scales. -/
theorem sld_eq (a : Memref sig .tc .vmem S1x5632 .f32) (f : BufTy.Contents (Elt Ideal) a.view.ty)
    (S : S1x5632.Idx → EReal) (h : a.view.read (Elt Ideal) f = S) : sld a f = part (n := 1) (φ := .f32) S := by
  funext j x
  subst h
  refine congrArg (a.view.read (Elt Ideal) f) (funext fun k => ?_)
  match k with
  | 0 => exact Fin.ext (by show 0 + 1 * (x 0).val = (x 0).val; omega)
  | 1 => exact Fin.ext (by show 512 * j.val + 1 * (x 1).val = 512 * j.val + (x 1).val; omega)

/-- The running maxima `a` taken over the products of a dequantised tile with all the weights. -/
def phase (a : FVec Ideal S8x128 .f32) (lhs : FVec Ideal S256x2048 .bf16) (W : S2048x5632.Idx → EReal) (S : S1x5632.Idx → EReal) :
    FVec Ideal S8x128 .f32 :=
  phaseL a lhs (part (n := 2048) (φ := .fp8e4m3) W) (part (n := 1) (φ := .f32) S)

end Cert.KernelIdeal.Val

end
-- ==== Proof.PiecesA.lean ====
/- The first step: what it stores. -/
module

public import proofs.«01_k».proof.Proof.Piece
public import proofs.«01_k».proof.Proof.LoopA
public import proofs.«01_k».proof.Proof.Amax
public import proofs.«01_k».proof.Proof.Gen.KernelIdeal.Frame

@[expose] public section

set_option maxRecDepth 16384

noncomputable section

namespace Cert.KernelIdeal.Val

open Idealize.ShloMosaic Facts₀ Facts Cert.KernelIdeal.Gen

attribute [local irreducible] shapeCast extf truncf minimumf maximumf mulf absf multiReduction subf addf divf log exp2 floor select cmpf
  broadcast broadcastTo extractStridedSlice cmpi iota

variable (c : Dev nD) (i : grid0.Coords) (arg3 : Memref sig .tc .vmem S1x5632 .f32) (harg3 : arg3.IsWhole)
  (arg4 : Memref sig .tc .vmem S256x2048 .bf16) (harg4 : arg4.IsWhole) (arg5 : Memref sig .tc .vmem S256x2048 .bf16)
  (harg5 : arg5.IsWhole) (arg6 : Memref sig .tc .vmem S512x5632 .fp8e4m3) (harg6 : arg6.IsWhole)
  (arg7 : Memref sig .tc .vmem S256x2x5632 .bf16) (harg7 : arg7.IsWhole) (arg8 : Memref sig .tc .vmem S512x2048 .fp8e4m3)
  (harg8 : arg8.IsWhole) (arg9 : Memref sig .tc .vmem S512x16 .f32) (harg9 : arg9.IsWhole)
  (arg10 : Memref sig .tc .vmem S8x128 .f32) (harg10 : arg10.IsWhole) (arg11 : Memref sig .tc .vmem S8x128 .i32)
  (harg11 : arg11.IsWhole) (arg12 : Memref sig .tc .vmem S2048x5632 .fp8e4m3) (harg12 : arg12.IsWhole)
  (arg13 : Memref sig .tc .vmem S256x2048 .bf16) (harg13 : arg13.IsWhole) (arg14 : Memref sig .tc .vmem S256x2048 .bf16)
  (harg14 : arg14.IsWhole) (arg15 : Memref sig .tc .vmem S256x2048 .fp8e4m3) (harg15 : arg15.IsWhole)
  (arg16 : Memref sig .tc .vmem S256x16 .f32) (harg16 : arg16.IsWhole) (arg17 : Memref sig .tc .vmem S256x2048 .bf16)
  (harg17 : arg17.IsWhole) (hc0 : cond0_0 i) (x0 : Vec Ideal S1x5632 .f32) (x1 : Vec Ideal S256x2048 .bf16)
  (x2 : Vec Ideal S256x2048 .bf16) (fh0 : HbBuf0 (F := Ideal) c hbM0_0) (fh1 : HbBuf0 (F := Ideal) c hbM0_1)

/-- One more store that agrees with `G`, put before the first `n` of a list of stores that do. -/
theorem take_pieces {s : Shape} {φ : EltTy} (n : ℕ) (G : s.Idx → Elt Ideal φ) (r : Rect s) (v : r.shape.Idx → Elt Ideal φ)
    (L : List (View.Piece (Elt Ideal) s φ)) (h : ∀ x, v x = G (r.emb x)) (t : View.PiecesOf G (L.take n)) :
    View.PiecesOf G (List.take (n + 1) (⟨r, v⟩ :: L)) := ⟨h, t⟩

/-- The loop leaves the codes of the first tile in their buffer. -/
theorem loopA_codes (o : Fin 2 → ℕ) (ho) (h0 : o 0 = 0) (h1 : o 1 = 0) :
    View.readAt (Elt Ideal) arg15.view (Rect.unit (s := S256x2048) o S256x2048.size ho).toLoadRect
      (arg15.view.writes (Elt Ideal) arg15.view.junk (pb_k0_t1 (F := Ideal) Variants.none c none i (Memref.whole main_v2) (Memref.isWhole_whole _) (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch6 cc0_scratch7 hc0 (arg17.view.writes (Elt Ideal) arg17.view.junk [⟨Rect.whole S256x2048, kernelRun0_A.sl.dma0_1 c fh0⟩]) k0_t1_loop.trips).2.1) = codesT (kernelRun0_A.sl.dma0_1 c fh0) :=
  readAt_pieces arg15 _ (codesT _) (loop_codes Variants.none c none i (Memref.whole main_v2) (Memref.isWhole_whole _) (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch6 cc0_scratch7 hc0 _ _ (read_one _ _) _ le_rfl)
    (View.cover_of_tiledL (pb_k0_t1 (F := Ideal) Variants.none c none i (Memref.whole main_v2) (Memref.isWhole_whole _) (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch6 cc0_scratch7 hc0 (arg17.view.writes (Elt Ideal) arg17.view.junk [⟨Rect.whole S256x2048, kernelRun0_A.sl.dma0_1 c fh0⟩]) k0_t1_loop.trips).2.1 S32x128.size (by sl_kernel_rfl)) o ho h0 h1

/-- And its scales. -/
theorem loopA_scales (o : Fin 2 → ℕ) (ho) (h0 : o 0 = 0) (h1 : o 1 = 0) :
    View.readAt (Elt Ideal) arg16.view (Rect.unit (s := S256x16) o S256x16.size ho).toLoadRect
      (arg16.view.writes (Elt Ideal) arg16.view.junk (pb_k0_t1 (F := Ideal) Variants.none c none i (Memref.whole main_v2) (Memref.isWhole_whole _) (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch6 cc0_scratch7 hc0 (arg17.view.writes (Elt Ideal) arg17.view.junk [⟨Rect.whole S256x2048, kernelRun0_A.sl.dma0_1 c fh0⟩]) k0_t1_loop.trips).2.2) = scalesT (kernelRun0_A.sl.dma0_1 c fh0) :=
  readAt_pieces arg16 _ (scalesT _) (loop_scales Variants.none c none i (Memref.whole main_v2) (Memref.isWhole_whole _) (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch6 cc0_scratch7 hc0 _ _ (read_one _ _) _ le_rfl)
    (View.cover_of_tiledL (pb_k0_t1 (F := Ideal) Variants.none c none i (Memref.whole main_v2) (Memref.isWhole_whole _) (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch6 cc0_scratch7 hc0 (arg17.view.writes (Elt Ideal) arg17.view.junk [⟨Rect.whole S256x2048, kernelRun0_A.sl.dma0_1 c fh0⟩]) k0_t1_loop.trips).2.2 S32x16.size (by sl_kernel_rfl)) o ho h0 h1

/-- And its dequantised values. -/
theorem loopA_deq (o : Fin 2 → ℕ) (ho) (h0 : o 0 = 0) (h1 : o 1 = 0) :
    View.readAt (Elt Ideal) arg13.view (Rect.unit (s := S256x2048) o S256x2048.size ho).toLoadRect
      (arg13.view.writes (Elt Ideal) arg13.view.junk (pb_k0_t1 (F := Ideal) Variants.none c none i (Memref.whole main_v2) (Memref.isWhole_whole _) (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch6 cc0_scratch7 hc0 (arg17.view.writes (Elt Ideal) arg17.view.junk [⟨Rect.whole S256x2048, kernelRun0_A.sl.dma0_1 c fh0⟩]) k0_t1_loop.trips).1) = deqT (kernelRun0_A.sl.dma0_1 c fh0) :=
  readAt_pieces arg13 _ (deqT _) (loop_deq Variants.none c none i (Memref.whole main_v2) (Memref.isWhole_whole _) (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch6 cc0_scratch7 hc0 _ _ (read_one _ _) _ le_rfl)
    (View.cover_of_tiledL (pb_k0_t1 (F := Ideal) Variants.none c none i (Memref.whole main_v2) (Memref.isWhole_whole _) (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch6 cc0_scratch7 hc0 (arg17.view.writes (Elt Ideal) arg17.view.junk [⟨Rect.whole S256x2048, kernelRun0_A.sl.dma0_1 c fh0⟩]) k0_t1_loop.trips).1 S32x128.size (by sl_kernel_rfl)) o ho h0 h1

/-- The codes written in the first step: those of the first tile, then those of the tile staged in window 1. -/
theorem piecesA5 : View.PiecesOf (Val := Elt Ideal) (e := .fp8e4m3) (two (m := 512) (codesT (kernelRun0_A.sl.dma0_1 c fh0)) (codesT x1))
    (kernelRun0_A  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1).2.2.1 := by
  unfold kernelRun0_A
  dsimp only
  iterate 128 refine cons_pieces _ _ _ _ (codes_goal x1 _ 256 rfl (two_hi _ _) arg4 (harg4.unread x1) (harg4.read_unread x1)
    _ _ (by decide) (by rfl) (by decide) Gen.shapeCasts_S32x128_S32x128 _ (by rfl)) ?_
  refine cons_pieces _ _ _ _ (copy_goal _ (codesT x1) _ _ (by rfl) (by rfl) _ (loopA_codes c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 fh0 _ _ (by rfl) (by rfl))) ?_
  exact trivial

/-- The scales written in the first step. -/
theorem piecesA6 : View.PiecesOf (Val := Elt Ideal) (e := .f32) (two (m := 512) (scalesT (kernelRun0_A.sl.dma0_1 c fh0)) (scalesT x1))
    (kernelRun0_A  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1).2.2.2.1 := by
  unfold kernelRun0_A
  dsimp only
  iterate 8 refine cons_pieces _ _ _ _ (scales_goal x1 _ 256 rfl (two_hi _ _) arg4 (harg4.unread x1) (harg4.read_unread x1)
    _ _ (by decide) (by rfl) Gen.shapeCasts_S32x128_S32x128 _ (by rfl)) ?_
  refine cons_pieces _ _ _ _ (copy_goal _ (scalesT x1) _ _ (by rfl) (by rfl) _ (loopA_scales c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 fh0 _ _ (by rfl) (by rfl))) ?_
  exact trivial

/-- The codes carried on: those of the tile staged in window 2, over the first tile's. -/
theorem piecesA_s3 : View.PiecesOf (Val := Elt Ideal) (e := .fp8e4m3) (codesT x2)
    (List.take 128 (kernelRun0_A  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1).2.2.2.2.2.2.2.2.1) := by
  unfold kernelRun0_A
  dsimp only
  iterate 128 refine take_pieces _ _ _ _ _ (codes_goal' (n := 256) x2 _ 0 rfl (codes_same _) arg5 (harg5.unread x2) (harg5.read_unread x2)
    _ _ (by decide) (by rfl) (by decide) Gen.shapeCasts_S32x128_S32x128 Gen.shapeCasts_S32x128_S32x128 _ (by rfl)) ?_
  exact trivial

/-- The scales carried on. -/
theorem piecesA_s4 : View.PiecesOf (Val := Elt Ideal) (e := .f32) (scalesT x2)
    (List.take 8 (kernelRun0_A  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1).2.2.2.2.2.2.2.2.2.1) := by
  unfold kernelRun0_A
  dsimp only
  iterate 8 refine take_pieces _ _ _ _ _ (scales_goal' (n := 256) x2 _ 0 rfl (scales_same _) arg5 (harg5.unread x2) (harg5.read_unread x2)
    _ _ (by decide) (by rfl) Gen.shapeCasts_S32x128_S32x128 Gen.shapeCasts_S32x16_S32x16 _ (by rfl)) ?_
  exact trivial

/-- The dequantised tile carried on. -/
theorem piecesA_s1 : View.PiecesOf (Val := Elt Ideal) (e := .bf16) (deqT x2)
    (List.take 128 (kernelRun0_A  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1).2.2.2.2.2.2.2.1) := by
  unfold kernelRun0_A
  dsimp only
  iterate 128 refine take_pieces _ _ _ _ _ (deq_goal x2 arg5 (harg5.unread x2) (harg5.read_unread x2)
    _ _ (by rfl) (by decide) Gen.shapeCasts_S32x128_S32x128 Gen.shapeCasts_S32x128_S32x128 _ (by rfl)) ?_
  exact trivial

end Cert.KernelIdeal.Val

end
-- ==== Proof.PhaseA.lean ====
/- The running maxima after each half of the first step. -/
module

public import proofs.«01_k».proof.Proof.Piece
public import proofs.«01_k».proof.Proof.Amax
public import proofs.«01_k».proof.Proof.Gen.KernelIdeal.Frame

@[expose] public section

set_option maxRecDepth 16384

noncomputable section

namespace Cert.KernelIdeal.Val

open Idealize.ShloMosaic Facts₀ Facts Cert.KernelIdeal.Gen

attribute [local irreducible] shapeCast extf truncf minimumf maximumf mulf absf multiReduction subf addf divf log exp2 floor select cmpf
  broadcast broadcastTo extractStridedSlice cmpi iota

variable (c : Dev nD) (i : grid0.Coords) (arg3 : Memref sig .tc .vmem S1x5632 .f32) (harg3 : arg3.IsWhole)
  (arg4 : Memref sig .tc .vmem S256x2048 .bf16) (harg4 : arg4.IsWhole) (arg5 : Memref sig .tc .vmem S256x2048 .bf16)
  (harg5 : arg5.IsWhole) (arg6 : Memref sig .tc .vmem S512x5632 .fp8e4m3) (harg6 : arg6.IsWhole)
  (arg7 : Memref sig .tc .vmem S256x2x5632 .bf16) (harg7 : arg7.IsWhole) (arg8 : Memref sig .tc .vmem S512x2048 .fp8e4m3)
  (harg8 : arg8.IsWhole) (arg9 : Memref sig .tc .vmem S512x16 .f32) (harg9 : arg9.IsWhole)
  (arg10 : Memref sig .tc .vmem S8x128 .f32) (harg10 : arg10.IsWhole) (arg11 : Memref sig .tc .vmem S8x128 .i32)
  (harg11 : arg11.IsWhole) (arg12 : Memref sig .tc .vmem S2048x5632 .fp8e4m3) (harg12 : arg12.IsWhole)
  (arg13 : Memref sig .tc .vmem S256x2048 .bf16) (harg13 : arg13.IsWhole) (arg14 : Memref sig .tc .vmem S256x2048 .bf16)
  (harg14 : arg14.IsWhole) (arg15 : Memref sig .tc .vmem S256x2048 .fp8e4m3) (harg15 : arg15.IsWhole)
  (arg16 : Memref sig .tc .vmem S256x16 .f32) (harg16 : arg16.IsWhole) (arg17 : Memref sig .tc .vmem S256x2048 .bf16)
  (harg17 : arg17.IsWhole) (hc0 : cond0_0 i) (x0 : Vec Ideal S1x5632 .f32) (x1 : Vec Ideal S256x2048 .bf16)
  (x2 : Vec Ideal S256x2048 .bf16) (fh0 : HbBuf0 (F := Ideal) c hbM0_0) (fh1 : HbBuf0 (F := Ideal) c hbM0_1)

/-- The maxima after the first half of the first step. -/
theorem phaseA0 : kernelRun0_A.sl.H7_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 fh0 fh1
    = ⟨Rect.unit (s := S8x128) ![0, 0] S8x128.size Gen.inb_S8x128_S8x128_0_0,
        phaseL (arg10.view.readCov (kernelRun0_A.sl.H7_1 (F := Ideal)) (Rect.unit (s := S8x128) ![0, 0] S8x128.size Gen.inb_S8x128_S8x128_0_0).toLoadRect)
        (View.readAt (Elt Ideal) arg13.view (Rect.unit (s := S256x2048) ![0, 0] S256x2048.size Gen.inb_S256x2048_S256x2048_0_0).toLoadRect
          (arg13.view.writes (Elt Ideal) arg13.view.junk (pb_k0_t1 (F := Ideal) Variants.none c none i (Memref.whole main_v2) (Memref.isWhole_whole _) (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch6 cc0_scratch7 hc0 (arg17.view.writes (Elt Ideal) arg17.view.junk [⟨Rect.whole S256x2048, kernelRun0_A.sl.dma0_1 c fh0⟩]) k0_t1_loop.trips).1))
        (wld arg12 (arg12.view.writes (Elt Ideal) arg12.view.junk [⟨Rect.whole S2048x5632, kernelRun0_A.sl.dma0 c fh1⟩]))
        (sld arg3 (harg3.unread x0))⟩ :: kernelRun0_A.sl.H7_1 (F := Ideal) := by rfl

/-- The maxima after its second half. -/
theorem phaseA1 : kernelRun0_A.sl.r_893 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 fh0 fh1
    = phaseL (arg10.view.readCov (kernelRun0_A.sl.H7_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 fh0 fh1)
          (Rect.unit (s := S8x128) ![0, 0] S8x128.size Gen.inb_S8x128_S8x128_0_0).toLoadRect)
        (kernelRun0_A.sl.v6131 c arg4 harg4 arg14 x1)
        (wld arg12 (arg12.view.writes (Elt Ideal) arg12.view.junk [⟨Rect.whole S2048x5632, kernelRun0_A.sl.dma0 c fh1⟩]))
        (sld arg3 (harg3.unread x0)) := by rfl

/-- Before the first step the maxima are zero. -/
theorem zeroA : kernelRun0_A.sl.H7_1 (F := Ideal)
    = [⟨Rect.unit (s := S8x128) ![0, 0] S8x128.size Gen.inb_S8x128_S8x128_0_0, broadcast S8x128 (Scalar.ofBits (F := Ideal) .f32 0x00000000#32)⟩] := by
  unfold kernelRun0_A.sl.H7_1

  rfl

end Cert.KernelIdeal.Val

end
-- ==== Proof.StepA.lean ====
/- What the first step leaves, block by block. -/
module

public import proofs.«01_k».proof.Proof.Piece
public import proofs.«01_k».proof.Proof.PiecesA
public import proofs.«01_k».proof.Proof.PhaseA
public import proofs.«01_k».proof.Proof.Amax
public import proofs.«01_k».proof.Proof.Gen.KernelIdeal.Frame

@[expose] public section

set_option maxRecDepth 16384

noncomputable section

namespace Cert.KernelIdeal.Val

open Idealize.ShloMosaic Facts₀ Facts Cert.KernelIdeal.Gen

attribute [local irreducible] shapeCast extf truncf minimumf maximumf mulf absf multiReduction subf addf divf log exp2 floor select cmpf
  broadcast broadcastTo extractStridedSlice cmpi iota

variable (c : Dev nD) (i : grid0.Coords) (arg3 : Memref sig .tc .vmem S1x5632 .f32) (harg3 : arg3.IsWhole)
  (arg4 : Memref sig .tc .vmem S256x2048 .bf16) (harg4 : arg4.IsWhole) (arg5 : Memref sig .tc .vmem S256x2048 .bf16)
  (harg5 : arg5.IsWhole) (arg6 : Memref sig .tc .vmem S512x5632 .fp8e4m3) (harg6 : arg6.IsWhole)
  (arg7 : Memref sig .tc .vmem S256x2x5632 .bf16) (harg7 : arg7.IsWhole) (arg8 : Memref sig .tc .vmem S512x2048 .fp8e4m3)
  (harg8 : arg8.IsWhole) (arg9 : Memref sig .tc .vmem S512x16 .f32) (harg9 : arg9.IsWhole)
  (arg10 : Memref sig .tc .vmem S8x128 .f32) (harg10 : arg10.IsWhole) (arg11 : Memref sig .tc .vmem S8x128 .i32)
  (harg11 : arg11.IsWhole) (arg12 : Memref sig .tc .vmem S2048x5632 .fp8e4m3) (harg12 : arg12.IsWhole)
  (arg13 : Memref sig .tc .vmem S256x2048 .bf16) (harg13 : arg13.IsWhole) (arg14 : Memref sig .tc .vmem S256x2048 .bf16)
  (harg14 : arg14.IsWhole) (arg15 : Memref sig .tc .vmem S256x2048 .fp8e4m3) (harg15 : arg15.IsWhole)
  (arg16 : Memref sig .tc .vmem S256x16 .f32) (harg16 : arg16.IsWhole) (arg17 : Memref sig .tc .vmem S256x2048 .bf16)
  (harg17 : arg17.IsWhole) (hc0 : cond0_0 i) (x0 : Vec Ideal S1x5632 .f32) (x1 : Vec Ideal S256x2048 .bf16)
  (x2 : Vec Ideal S256x2048 .bf16) (fh0 : HbBuf0 (F := Ideal) c hbM0_0) (fh1 : HbBuf0 (F := Ideal) c hbM0_1)

/-- The block of codes the first step writes. -/
theorem out0_A_5_eq : out0_A_5  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1 = two (m := 512) (codesT (kernelRun0_A.sl.dma0_1 c fh0)) (codesT x1) := by
  funext y
  unfold out0_A_5
  exact View.read_writes_apply_of_pieces VO0_5 _ _ _ (piecesA5  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1).mem y (cover0_A_5  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1 y)

/-- The block of scales the first step writes. -/
theorem out0_A_6_eq : out0_A_6  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1 = two (m := 512) (scalesT (kernelRun0_A.sl.dma0_1 c fh0)) (scalesT x1) := by
  funext y
  unfold out0_A_6
  exact View.read_writes_apply_of_pieces VO0_6 _ _ _ (piecesA6  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1).mem y (cover0_A_6  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1 y)

/-- What the first step carries on of the next tile. -/
theorem sout0_A_1_eq : sout0_A_1  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1 = deqT x2 := by
  unfold sout0_A_1
  exact read_take VS0_1 128 _ _ (piecesA_s1  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1)
    (View.cover_of_tiledL (List.take 128 (kernelRun0_A  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1).2.2.2.2.2.2.2.1) S32x128.size (by sl_kernel_rfl))

/-- What the first step carries on of the next tile. -/
theorem sout0_A_3_eq : sout0_A_3  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1 = codesT x2 := by
  unfold sout0_A_3
  exact read_take VS0_3 128 _ _ (piecesA_s3  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1)
    (View.cover_of_tiledL (List.take 128 (kernelRun0_A  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1).2.2.2.2.2.2.2.2.1) S32x128.size (by sl_kernel_rfl))

/-- What the first step carries on of the next tile. -/
theorem sout0_A_4_eq : sout0_A_4  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1 = scalesT x2 := by
  unfold sout0_A_4
  exact read_take VS0_4 8 _ _ (piecesA_s4  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1)
    (View.cover_of_tiledL (List.take 8 (kernelRun0_A  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1).2.2.2.2.2.2.2.2.2.1) S32x16.size (by sl_kernel_rfl))

/-- The tile the first step dequantises for its second half. -/
theorem v6131A_eq : kernelRun0_A.sl.v6131 c arg4 harg4 arg14 x1 = deqT x1 := by
  unfold kernelRun0_A.sl.v6131
  refine readAt_pieces arg14 _ (deqT x1) ?_ (View.cover_of_tiledL (kernelRun0_A.sl.HS2_128 c arg4 harg4 x1) S32x128.size (by sl_kernel_rfl)) _ _ (by rfl) (by rfl)
  unfold kernelRun0_A.sl.HS2_128
  iterate 128 refine cons_pieces _ _ _ _ (deq_goal x1 arg4 (harg4.unread x1) (harg4.read_unread x1)
    _ _ (by rfl) (by decide) Gen.shapeCasts_S32x128_S32x128 Gen.shapeCasts_S32x128_S32x128 _ (by rfl)) ?_
  exact trivial

/-- The weights the first step fetches and carries on. -/
theorem sout0_A_0_eq : sout0_A_0  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1 = kernelRun0_A.sl.dma0 c fh1 := by
  have e : (kernelRun0_A  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1).2.2.2.2.2.2.1 = [⟨Rect.whole S2048x5632, kernelRun0_A.sl.dma0 c fh1⟩] := by
    unfold kernelRun0_A
    rfl
  unfold sout0_A_0
  rw [e]
  funext y
  exact View.read_writes_apply_of_pieces VS0_0 _ (kernelRun0_A.sl.dma0 c fh1) [⟨Rect.whole S2048x5632, kernelRun0_A.sl.dma0 c fh1⟩]
    (fun p hp x => by obtain rfl := List.mem_singleton.mp hp; exact congrArg (kernelRun0_A.sl.dma0 c fh1) (emb_whole x).symm) y
    ⟨_, List.mem_singleton.mpr rfl, (emb_whole y) ▸ (Rect.whole S2048x5632).idx_mem y⟩

/-- The maxima the first step leaves. -/
theorem out0_A_7_eq : out0_A_7  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1
    = phase (phase (broadcast S8x128 (Scalar.ofBits (F := Ideal) .f32 0x00000000#32)) (deqT (kernelRun0_A.sl.dma0_1 c fh0)) (kernelRun0_A.sl.dma0 c fh1) x0) (deqT x1) (kernelRun0_A.sl.dma0 c fh1) x0 := by
  have e7 : (kernelRun0_A  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 fh0 fh1).2.2.2.2.1 = ⟨Rect.unit (s := S8x128) ![0, 0] S8x128.size Gen.inb_S8x128_S8x128_0_0,
      kernelRun0_A.sl.r_893 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 fh0 fh1⟩ ::
        kernelRun0_A.sl.H7_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 fh0 fh1 := by
    unfold kernelRun0_A
    rfl
  have ew := wld_eq arg12 _ (kernelRun0_A.sl.dma0 c fh1) (read_one arg12 (kernelRun0_A.sl.dma0 c fh1))
  have es := sld_eq arg3 (harg3.unread x0) x0 (harg3.read_unread x0)
  unfold out0_A_7
  rw [e7, read_top _ _ _ (by rfl) (by rfl), phaseA1, phaseA0, cov_cons, v6131A_eq, ew, es, zeroA, cov_cons, loopA_deq c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 fh0 _ _ (by rfl) (by rfl)]
  rfl

end Cert.KernelIdeal.Val

end
-- ==== Proof.PiecesB.lean ====
/- What a step after the first stores: the codes, the scales and the tile it carries on. -/
module

public import proofs.«01_k».proof.Proof.Piece
public import proofs.«01_k».proof.Proof.Gen.KernelIdeal.Frame

@[expose] public section

set_option maxRecDepth 16384

noncomputable section

namespace Cert.KernelIdeal.Val

open Idealize.ShloMosaic Facts₀ Facts Cert.KernelIdeal.Gen

variable (c : Dev nD) (i : grid0.Coords) (arg3 : Memref sig .tc .vmem S1x5632 .f32) (harg3 : arg3.IsWhole)
  (arg4 : Memref sig .tc .vmem S256x2048 .bf16) (harg4 : arg4.IsWhole) (arg5 : Memref sig .tc .vmem S256x2048 .bf16)
  (harg5 : arg5.IsWhole) (arg6 : Memref sig .tc .vmem S512x5632 .fp8e4m3) (harg6 : arg6.IsWhole)
  (arg7 : Memref sig .tc .vmem S256x2x5632 .bf16) (harg7 : arg7.IsWhole) (arg8 : Memref sig .tc .vmem S512x2048 .fp8e4m3)
  (harg8 : arg8.IsWhole) (arg9 : Memref sig .tc .vmem S512x16 .f32) (harg9 : arg9.IsWhole)
  (arg10 : Memref sig .tc .vmem S8x128 .f32) (harg10 : arg10.IsWhole) (arg11 : Memref sig .tc .vmem S8x128 .i32)
  (harg11 : arg11.IsWhole) (arg12 : Memref sig .tc .vmem S2048x5632 .fp8e4m3) (harg12 : arg12.IsWhole)
  (arg13 : Memref sig .tc .vmem S256x2048 .bf16) (harg13 : arg13.IsWhole) (arg14 : Memref sig .tc .vmem S256x2048 .bf16)
  (harg14 : arg14.IsWhole) (arg15 : Memref sig .tc .vmem S256x2048 .fp8e4m3) (harg15 : arg15.IsWhole)
  (arg16 : Memref sig .tc .vmem S256x16 .f32) (harg16 : arg16.IsWhole) (arg17 : Memref sig .tc .vmem S256x2048 .bf16)
  (harg17 : arg17.IsWhole) (hc0 : ¬cond0_0 i) (x0 : Vec Ideal S1x5632 .f32) (x1 : Vec Ideal S256x2048 .bf16)
  (x2 : Vec Ideal S256x2048 .bf16) (xo7 : Vec Ideal S8x128 .f32) (xo8 : Vec Ideal S8x128 .i32)
  (xs0 : Vec Ideal S2048x5632 .fp8e4m3) (xs1 : Vec Ideal S256x2048 .bf16) (xs3 : Vec Ideal S256x2048 .fp8e4m3)
  (xs4 : Vec Ideal S256x16 .f32) (fh0 : HbBuf0 (F := Ideal) c hbM0_0) (fh1 : HbBuf0 (F := Ideal) c hbM0_1)
attribute [local irreducible] shapeCast extf truncf minimumf maximumf mulf absf multiReduction subf addf divf log exp2 floor select cmpf
  broadcast broadcastTo cmpi iota

/-- The codes written in a step after the first: those carried, then those of the tile staged in window 1. -/
theorem piecesB5 : View.PiecesOf (Val := Elt Ideal) (e := .fp8e4m3) (two (m := 512) xs3 (codesT x1))
    (kernelRun0_B  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1).2.2.1 := by
  unfold kernelRun0_B
  dsimp only
  iterate 128 refine cons_pieces _ _ _ _ (codes_goal x1 _ 256 rfl (two_hi _ _) arg4 (harg4.unread x1) (harg4.read_unread x1)
    _ _ (by decide) (by rfl) (by decide) Gen.shapeCasts_S32x128_S32x128 _ (by rfl)) ?_
  refine cons_pieces _ _ _ _ (copy_goal xs3 (codesT x1) _ _ (by rfl) (by rfl) _ (read_whole arg15 harg15 xs3 _ _ (by rfl) (by rfl))) ?_
  exact trivial

/-- The scales written in a step after the first: those carried, then those of the tile staged in window 1. -/
theorem piecesB6 : View.PiecesOf (Val := Elt Ideal) (e := .f32) (two (m := 512) xs4 (scalesT x1))
    (kernelRun0_B  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1).2.2.2.1 := by
  unfold kernelRun0_B
  dsimp only
  iterate 8 refine cons_pieces _ _ _ _ (scales_goal x1 _ 256 rfl (two_hi _ _) arg4 (harg4.unread x1) (harg4.read_unread x1)
    _ _ (by decide) (by rfl) Gen.shapeCasts_S32x128_S32x128 _ (by rfl)) ?_
  refine cons_pieces _ _ _ _ (copy_goal xs4 (scalesT x1) _ _ (by rfl) (by rfl) _ (read_whole arg16 harg16 xs4 _ _ (by rfl) (by rfl))) ?_
  exact trivial

/-- The dequantised tile carried on: that of the tile staged in window 2. -/
theorem piecesB_s1 : View.PiecesOf (Val := Elt Ideal) (e := .bf16) (deqT x2)
    (kernelRun0_B  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1).2.2.2.2.2.2.2.1 := by
  unfold kernelRun0_B
  dsimp only
  iterate 128 refine cons_pieces _ _ _ _ (deq_goal x2 arg5 (harg5.unread x2) (harg5.read_unread x2)
    _ _ (by rfl) (by decide) Gen.shapeCasts_S32x128_S32x128 Gen.shapeCasts_S32x128_S32x128 _ (by rfl)) ?_
  exact trivial

/-- The codes carried on: those of the tile staged in window 2. -/
theorem piecesB_s3 : View.PiecesOf (Val := Elt Ideal) (e := .fp8e4m3) (codesT x2)
    (kernelRun0_B  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1).2.2.2.2.2.2.2.2.1 := by
  unfold kernelRun0_B
  dsimp only
  iterate 128 refine cons_pieces _ _ _ _ (codes_goal' (n := 256) x2 _ 0 rfl (codes_same _) arg5 (harg5.unread x2) (harg5.read_unread x2)
    _ _ (by decide) (by rfl) (by decide) Gen.shapeCasts_S32x128_S32x128 Gen.shapeCasts_S32x128_S32x128 _ (by rfl)) ?_
  exact trivial

/-- The scales carried on: those of the tile staged in window 2. -/
theorem piecesB_s4 : View.PiecesOf (Val := Elt Ideal) (e := .f32) (scalesT x2)
    (kernelRun0_B  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1).2.2.2.2.2.2.2.2.2.1 := by
  unfold kernelRun0_B
  dsimp only
  iterate 8 refine cons_pieces _ _ _ _ (scales_goal' (n := 256) x2 _ 0 rfl (scales_same _) arg5 (harg5.unread x2) (harg5.read_unread x2)
    _ _ (by decide) (by rfl) Gen.shapeCasts_S32x128_S32x128 Gen.shapeCasts_S32x16_S32x16 _ (by rfl)) ?_
  exact trivial

end Cert.KernelIdeal.Val

end
-- ==== Proof.PhaseB.lean ====
/- The running maxima after each half of a step that is not the first. -/
module

public import proofs.«01_k».proof.Proof.Amax
public import proofs.«01_k».proof.Proof.Gen.KernelIdeal.Frame

@[expose] public section

set_option maxRecDepth 16384

noncomputable section

namespace Cert.KernelIdeal.Val

open Idealize.ShloMosaic Facts₀ Facts Cert.KernelIdeal.Gen

attribute [local irreducible] shapeCast extf truncf minimumf maximumf mulf absf multiReduction subf addf divf log exp2 floor select cmpf
  broadcast broadcastTo extractStridedSlice cmpi iota

variable (c : Dev nD) (i : grid0.Coords) (arg3 : Memref sig .tc .vmem S1x5632 .f32) (harg3 : arg3.IsWhole)
  (arg4 : Memref sig .tc .vmem S256x2048 .bf16) (harg4 : arg4.IsWhole) (arg5 : Memref sig .tc .vmem S256x2048 .bf16)
  (harg5 : arg5.IsWhole) (arg6 : Memref sig .tc .vmem S512x5632 .fp8e4m3) (harg6 : arg6.IsWhole)
  (arg7 : Memref sig .tc .vmem S256x2x5632 .bf16) (harg7 : arg7.IsWhole) (arg8 : Memref sig .tc .vmem S512x2048 .fp8e4m3)
  (harg8 : arg8.IsWhole) (arg9 : Memref sig .tc .vmem S512x16 .f32) (harg9 : arg9.IsWhole)
  (arg10 : Memref sig .tc .vmem S8x128 .f32) (harg10 : arg10.IsWhole) (arg11 : Memref sig .tc .vmem S8x128 .i32)
  (harg11 : arg11.IsWhole) (arg12 : Memref sig .tc .vmem S2048x5632 .fp8e4m3) (harg12 : arg12.IsWhole)
  (arg13 : Memref sig .tc .vmem S256x2048 .bf16) (harg13 : arg13.IsWhole) (arg14 : Memref sig .tc .vmem S256x2048 .bf16)
  (harg14 : arg14.IsWhole) (arg15 : Memref sig .tc .vmem S256x2048 .fp8e4m3) (harg15 : arg15.IsWhole)
  (arg16 : Memref sig .tc .vmem S256x16 .f32) (harg16 : arg16.IsWhole) (arg17 : Memref sig .tc .vmem S256x2048 .bf16)
  (harg17 : arg17.IsWhole) (hc0 : ¬cond0_0 i) (x0 : Vec Ideal S1x5632 .f32) (x1 : Vec Ideal S256x2048 .bf16)
  (x2 : Vec Ideal S256x2048 .bf16) (xo7 : Vec Ideal S8x128 .f32) (xo8 : Vec Ideal S8x128 .i32)
  (xs0 : Vec Ideal S2048x5632 .fp8e4m3) (xs1 : Vec Ideal S256x2048 .bf16) (xs3 : Vec Ideal S256x2048 .fp8e4m3)
  (xs4 : Vec Ideal S256x16 .f32) (fh0 : HbBuf0 (F := Ideal) c hbM0_0) (fh1 : HbBuf0 (F := Ideal) c hbM0_1)

/-- The maxima after the first half of a step. -/
theorem phaseB0 : k0_pay1131 (kernelRun0_B.sl.r_429 c arg3 harg3 arg10 harg10 arg12 harg12 arg13 harg13 x0 xo7 xs0 xs1)
          (kernelRun0_B.sl.r_430 c arg12 harg12 arg13 harg13 xs0 xs1) (kernelRun0_B.sl.r_431 c arg3 harg3 x0)
    = phaseL (View.readAt (Elt Ideal) arg10.view (Rect.unit (s := S8x128) ![0, 0] S8x128.size Gen.inb_S8x128_S8x128_0_0).toLoadRect (harg10.unread xo7))
        (View.readAt (Elt Ideal) arg13.view (Rect.unit (s := S256x2048) ![0, 0] S256x2048.size Gen.inb_S256x2048_S256x2048_0_0).toLoadRect (harg13.unread xs1))
        (wld arg12 (harg12.unread xs0)) (sld arg3 (harg3.unread x0)) := by rfl

/-- The maxima after the second half. -/
theorem phaseB1 : kernelRun0_B.sl.r_889 c arg3 harg3 arg4 harg4 arg10 harg10 arg12 harg12 arg13 harg13 arg14 x0 x1 xo7 xs0 xs1
    = phaseL (arg10.view.readCov (kernelRun0_B.sl.H7_1 c arg3 harg3 arg10 harg10 arg12 harg12 arg13 harg13 x0 xo7 xs0 xs1)
          (Rect.unit (s := S8x128) ![0, 0] S8x128.size Gen.inb_S8x128_S8x128_0_0).toLoadRect)
        (kernelRun0_B.sl.v6131 c arg4 harg4 arg14 x1)
        (wld arg12 (harg12.unread xs0)) (sld arg3 (harg3.unread x0)) := by rfl

end Cert.KernelIdeal.Val

end
-- ==== Proof.StepB.lean ====
/- What a step after the first leaves, block by block. -/
module

public import proofs.«01_k».proof.Proof.Piece
public import proofs.«01_k».proof.Proof.PiecesB
public import proofs.«01_k».proof.Proof.PhaseB
public import proofs.«01_k».proof.Proof.Amax
public import proofs.«01_k».proof.Proof.Gen.KernelIdeal.Frame

@[expose] public section

set_option maxRecDepth 16384

noncomputable section

namespace Cert.KernelIdeal.Val

open Idealize.ShloMosaic Facts₀ Facts Cert.KernelIdeal.Gen

attribute [local irreducible] shapeCast extf truncf minimumf maximumf mulf absf multiReduction subf addf divf log exp2 floor select cmpf
  broadcast broadcastTo extractStridedSlice cmpi iota

variable (c : Dev nD) (i : grid0.Coords) (arg3 : Memref sig .tc .vmem S1x5632 .f32) (harg3 : arg3.IsWhole)
  (arg4 : Memref sig .tc .vmem S256x2048 .bf16) (harg4 : arg4.IsWhole) (arg5 : Memref sig .tc .vmem S256x2048 .bf16)
  (harg5 : arg5.IsWhole) (arg6 : Memref sig .tc .vmem S512x5632 .fp8e4m3) (harg6 : arg6.IsWhole)
  (arg7 : Memref sig .tc .vmem S256x2x5632 .bf16) (harg7 : arg7.IsWhole) (arg8 : Memref sig .tc .vmem S512x2048 .fp8e4m3)
  (harg8 : arg8.IsWhole) (arg9 : Memref sig .tc .vmem S512x16 .f32) (harg9 : arg9.IsWhole)
  (arg10 : Memref sig .tc .vmem S8x128 .f32) (harg10 : arg10.IsWhole) (arg11 : Memref sig .tc .vmem S8x128 .i32)
  (harg11 : arg11.IsWhole) (arg12 : Memref sig .tc .vmem S2048x5632 .fp8e4m3) (harg12 : arg12.IsWhole)
  (arg13 : Memref sig .tc .vmem S256x2048 .bf16) (harg13 : arg13.IsWhole) (arg14 : Memref sig .tc .vmem S256x2048 .bf16)
  (harg14 : arg14.IsWhole) (arg15 : Memref sig .tc .vmem S256x2048 .fp8e4m3) (harg15 : arg15.IsWhole)
  (arg16 : Memref sig .tc .vmem S256x16 .f32) (harg16 : arg16.IsWhole) (arg17 : Memref sig .tc .vmem S256x2048 .bf16)
  (harg17 : arg17.IsWhole) (hc0 : ¬cond0_0 i) (x0 : Vec Ideal S1x5632 .f32) (x1 : Vec Ideal S256x2048 .bf16)
  (x2 : Vec Ideal S256x2048 .bf16) (xo7 : Vec Ideal S8x128 .f32) (xo8 : Vec Ideal S8x128 .i32)
  (xs0 : Vec Ideal S2048x5632 .fp8e4m3) (xs1 : Vec Ideal S256x2048 .bf16) (xs3 : Vec Ideal S256x2048 .fp8e4m3)
  (xs4 : Vec Ideal S256x16 .f32) (fh0 : HbBuf0 (F := Ideal) c hbM0_0) (fh1 : HbBuf0 (F := Ideal) c hbM0_1)

/-- The block of codes a later step writes. -/
theorem out0_B_5_eq : out0_B_5  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1 = two (m := 512) xs3 (codesT x1) := by
  funext y
  unfold out0_B_5
  exact View.read_writes_apply_of_pieces VO0_5 _ _ _ (piecesB5  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1).mem y (cover0_B_5  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1 y)

/-- The block of scales a later step writes. -/
theorem out0_B_6_eq : out0_B_6  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1 = two (m := 512) xs4 (scalesT x1) := by
  funext y
  unfold out0_B_6
  exact View.read_writes_apply_of_pieces VO0_6 _ _ _ (piecesB6  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1).mem y (cover0_B_6  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1 y)

/-- What a later step carries on of the next tile. -/
theorem sout0_B_1_eq : sout0_B_1  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1 = deqT x2 := by
  funext y
  unfold sout0_B_1
  exact View.read_writes_apply_of_pieces VS0_1 _ _ _ (piecesB_s1  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1).mem y (scover0_B_1  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1 y)

/-- What a later step carries on of the next tile. -/
theorem sout0_B_3_eq : sout0_B_3  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1 = codesT x2 := by
  funext y
  unfold sout0_B_3
  exact View.read_writes_apply_of_pieces VS0_3 _ _ _ (piecesB_s3  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1).mem y (scover0_B_3  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1 y)

/-- What a later step carries on of the next tile. -/
theorem sout0_B_4_eq : sout0_B_4  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1 = scalesT x2 := by
  funext y
  unfold sout0_B_4
  exact View.read_writes_apply_of_pieces VS0_4 _ _ _ (piecesB_s4  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1).mem y (scover0_B_4  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1 y)

/-- The tile a later step dequantises for its second half. -/
theorem v6131B_eq : kernelRun0_B.sl.v6131 c arg4 harg4 arg14 x1 = deqT x1 := by
  unfold kernelRun0_B.sl.v6131
  refine readAt_pieces arg14 _ (deqT x1) ?_ (View.cover_of_tiledL (kernelRun0_B.sl.HS2_128 c arg4 harg4 x1) S32x128.size (by sl_kernel_rfl)) _ _ (by rfl) (by rfl)
  unfold kernelRun0_B.sl.HS2_128
  iterate 128 refine cons_pieces _ _ _ _ (deq_goal x1 arg4 (harg4.unread x1) (harg4.read_unread x1)
    _ _ (by rfl) (by decide) Gen.shapeCasts_S32x128_S32x128 Gen.shapeCasts_S32x128_S32x128 _ (by rfl)) ?_
  exact trivial

/-- The maxima a later step leaves. -/
theorem out0_B_7_eq : out0_B_7  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1 = phase (phase xo7 xs1 xs0 x0) (deqT x1) xs0 x0 := by
  have e7 : (kernelRun0_B  c i arg3 harg3 arg4 harg4 arg5 harg5 arg6 harg6 arg7 harg7 arg8 harg8 arg9 harg9 arg10 harg10 arg11 harg11
      arg12 harg12 arg13 harg13 arg14 harg14 arg15 harg15 arg16 harg16 arg17 harg17 hc0 x0 x1 x2 xo7 xo8 xs0 xs1 xs3
      xs4 fh0 fh1).2.2.2.2.1 = ⟨Rect.unit (s := S8x128) ![0, 0] S8x128.size Gen.inb_S8x128_S8x128_0_0,
      kernelRun0_B.sl.r_889 c arg3 harg3 arg4 harg4 arg10 harg10 arg12 harg12 arg13 harg13 arg14 x0 x1 xo7 xs0 xs1⟩ ::
        kernelRun0_B.sl.H7_1 c arg3 harg3 arg10 harg10 arg12 harg12 arg13 harg13 x0 xo7 xs0 xs1 := by
    unfold kernelRun0_B
    rfl
  have h1 : kernelRun0_B.sl.H7_1 c arg3 harg3 arg10 harg10 arg12 harg12 arg13 harg13 x0 xo7 xs0 xs1
      = [⟨Rect.unit (s := S8x128) ![0, 0] S8x128.size Gen.inb_S8x128_S8x128_0_0,
          k0_pay1131 (kernelRun0_B.sl.r_429 c arg3 harg3 arg10 harg10 arg12 harg12 arg13 harg13 x0 xo7 xs0 xs1)
          (kernelRun0_B.sl.r_430 c arg12 harg12 arg13 harg13 xs0 xs1) (kernelRun0_B.sl.r_431 c arg3 harg3 x0)⟩] := by
    unfold kernelRun0_B.sl.H7_1
    rfl
  have ew := wld_eq arg12 (harg12.unread xs0) xs0 (harg12.read_unread xs0)
  have es := sld_eq arg3 (harg3.unread x0) x0 (harg3.read_unread x0)
  have ea := read_whole arg10 harg10 xo7 ![0, 0] Gen.inb_S8x128_S8x128_0_0 (by rfl) (by rfl)
  have ed := read_whole arg13 harg13 xs1 ![0, 0] Gen.inb_S256x2048_S256x2048_0_0 (by rfl) (by rfl)
  unfold out0_B_7
  rw [e7, read_top _ _ _ (by rfl) (by rfl), phaseB1, h1, cov_cons, phaseB0, v6131B_eq, ew, es, ea, ed]
  rfl

end Cert.KernelIdeal.Val

end
-- ==== Proof.Phase.lean ====
/- When a bound holds of the running maxima: the order characterisation by which the kernel's maxima and the reference's meet. -/
module

public import proofs.«01_k».proof.Proof.Amax

@[expose] public section

set_option maxRecDepth 16384

noncomputable section

namespace Cert.KernelIdeal.Val

open Idealize.ShloMosaic Facts₀ Facts

/-- The magnitude of one element of the product: row `r` of the operand with column `c` of the weights, times its scale. -/
def term {n : ℕ} (X : (Sh n).Idx → EReal) (W : S2048x5632.Idx → EReal) (S : S1x5632.Idx → EReal) (r : Fin n) (c : Fin 5632) : EReal :=
  FloatOps.absf (F := Ideal) (φ := .f32) ((∑ k : Fin 2048, X (ix2 r k) * W (ix2 k c)) * S (ix2 0 c))

/-- Cell `(s, c)` of the maxima over rows of a chunk is the largest magnitude in column `c`, over the rows that leave `s` modulo 8. -/
theorem cmax8_apply (lhs : FVec Ideal S256x2048 .bf16) (w : FVec Ideal S2048x512 .fp8e4m3) (sc : FVec Ideal S1x512 .f32)
    (s : Fin 8) (c : Fin 512) :
    cmax8 lhs w sc (ix2 s c) = Finset.fold max (Ideal.ofBits FTy.f32 0xFF800000#32) (fun g : Fin 32 =>
      FloatOps.absf (F := Ideal) (φ := .f32) ((∑ k : Fin 2048, lhs (ix2 ⟨g.val * 8 + s.val, by omega⟩ k) * w (ix2 k c)) * sc (ix2 0 c)))
      Finset.univ := by
  pointwise [cmax8, ychunk]

/-- Cell `(s, l)` of the maxima of a chunk is the largest of its four columns that leave `l` modulo 128. -/
theorem cmax_apply (lhs : FVec Ideal S256x2048 .bf16) (w : FVec Ideal S2048x512 .fp8e4m3) (sc : FVec Ideal S1x512 .f32)
    (s : Fin 8) (l : Fin 128) :
    cmax lhs w sc (ix2 s l) = max (max (max (cmax8 lhs w sc (ix2 s ⟨l.val, by omega⟩)) (cmax8 lhs w sc (ix2 s ⟨128 + l.val, by omega⟩)))
      (cmax8 lhs w sc (ix2 s ⟨256 + l.val, by omega⟩))) (cmax8 lhs w sc (ix2 s ⟨384 + l.val, by omega⟩)) := by
  pointwise [cmax]

/-- The starting value of a maximum is a lower bound of everything. -/
theorem negInf_le (z : EReal) : Ideal.ofBits FTy.f32 0xFF800000#32 ≤ z := by
  have e : Ideal.ofBits FTy.f32 0xFF800000#32 = ⊥ := by simp [Ideal.ofBits, Ideal.ieee]
  rw [e]; exact bot_le

/-- A bound on the maxima of one column chunk. -/
theorem cmax_le (lhs : FVec Ideal S256x2048 .bf16) (W : S2048x5632.Idx → EReal) (S : S1x5632.Idx → EReal) (j : Fin 11)
    (s : Fin 8) (l : Fin 128) (z : EReal) :
    cmax lhs (part (n := 2048) (φ := .fp8e4m3) W j) (part (n := 1) (φ := .f32) S j) (ix2 s l) ≤ z
      ↔ ∀ (q : Fin 4) (g : Fin 32), term lhs W S ⟨g.val * 8 + s.val, by omega⟩ ⟨(4 * j.val + q.val) * 128 + l.val, by omega⟩ ≤ z := by
  have h8 : ∀ (q : Fin 4) (c : Fin 512), c.val = 128 * q.val + l.val →
      (cmax8 lhs (part (n := 2048) (φ := .fp8e4m3) W j) (part (n := 1) (φ := .f32) S j) (ix2 s c) ≤ z
        ↔ ∀ g : Fin 32, term lhs W S ⟨g.val * 8 + s.val, by omega⟩ ⟨(4 * j.val + q.val) * 128 + l.val, by omega⟩ ≤ z) := by
    intro q c hc
    have e : (⟨512 * j.val + c.val, by omega⟩ : Fin 5632) = ⟨(4 * j.val + q.val) * 128 + l.val, by omega⟩ := Fin.ext (by
      show 512 * j.val + c.val = (4 * j.val + q.val) * 128 + l.val
      omega)
    rw [cmax8_apply, Finset.fold_max_le]
    refine ⟨fun h g => ?_, fun h => ⟨negInf_le z, fun g _ => ?_⟩⟩
    · have := h.2 g (Finset.mem_univ g)
      rw [← e]; exact this
    · have := h g
      rw [← e] at this; exact this
  rw [cmax_apply, max_le_iff, max_le_iff, max_le_iff, h8 0 _ (by show l.val = 128 * 0 + l.val; omega), h8 1 _ (by show 128 + l.val = 128 * 1 + l.val; omega),
    h8 2 _ (by show 256 + l.val = 128 * 2 + l.val; omega), h8 3 _ (by show 384 + l.val = 128 * 3 + l.val; omega)]
  refine ⟨fun h q => ?_, fun h => ⟨⟨⟨h 0, h 1⟩, h 2⟩, h 3⟩⟩
  match q with
  | 0 => exact h.1.1.1
  | 1 => exact h.1.1.2
  | 2 => exact h.1.2
  | 3 => exact h.2

/-- A bound on a cell of the running maxima bounds what they were before and the cell of every chunk's maxima. -/
theorem phase_apply (a : FVec Ideal S8x128 .f32) (lhs : FVec Ideal S256x2048 .bf16) (W : S2048x5632.Idx → EReal) (S : S1x5632.Idx → EReal)
    (s : Fin 8) (l : Fin 128) (z : EReal) :
    phase a lhs W S (ix2 s l) ≤ z ↔ a (ix2 s l) ≤ z ∧ ∀ j : Fin 11,
      cmax lhs (part (n := 2048) (φ := .fp8e4m3) W j) (part (n := 1) (φ := .f32) S j) (ix2 s l) ≤ z := by
  have e : (shapeCast S8x128 a shapeCasts_S8x128_S8x128) (ix2 s l) = a (ix2 s l) := by pointwise
  unfold phase phaseL
  show max (max (max (max (max (max (max (max (max (max (max _ _) _) _) _) _) _) _) _) _) _) _ ≤ z ↔ _
  simp only [max_le_iff]
  rw [e]
  refine ⟨fun h => ⟨h.1.1.1.1.1.1.1.1.1.1.1, fun j => ?_⟩, fun h => ⟨⟨⟨⟨⟨⟨⟨⟨⟨⟨⟨h.1, h.2 0⟩, h.2 1⟩, h.2 2⟩, h.2 3⟩, h.2 4⟩, h.2 5⟩, h.2 6⟩, h.2 7⟩, h.2 8⟩, h.2 9⟩, h.2 10⟩⟩
  obtain ⟨⟨⟨⟨⟨⟨⟨⟨⟨⟨⟨_, h0⟩, h1⟩, h2⟩, h3⟩, h4⟩, h5⟩, h6⟩, h7⟩, h8⟩, h9⟩, h10⟩ := h
  match j with
  | 0 => exact h0
  | 1 => exact h1
  | 2 => exact h2
  | 3 => exact h3
  | 4 => exact h4
  | 5 => exact h5
  | 6 => exact h6
  | 7 => exact h7
  | 8 => exact h8
  | 9 => exact h9
  | 10 => exact h10

/-- A bound on the running maxima after a tile: it bounds those before and every element of the tile's product on the cell. -/
theorem phase_le (a : FVec Ideal S8x128 .f32) (lhs : FVec Ideal S256x2048 .bf16) (W : S2048x5632.Idx → EReal) (S : S1x5632.Idx → EReal)
    (s : Fin 8) (l : Fin 128) (z : EReal) :
    phase a lhs W S (ix2 s l) ≤ z ↔ a (ix2 s l) ≤ z ∧ ∀ (g : Fin 32) (t : Fin 44),
      term lhs W S ⟨g.val * 8 + s.val, by omega⟩ ⟨t.val * 128 + l.val, by omega⟩ ≤ z := by
  rw [phase_apply]
  refine and_congr_right fun _ => ⟨fun h g t => ?_, fun h j => (cmax_le lhs W S j s l z).mpr fun q g => h g ⟨4 * j.val + q.val, by omega⟩⟩
  have := (cmax_le lhs W S ⟨t.val / 4, by omega⟩ s l z).mp (h _) ⟨t.val % 4, by omega⟩ g
  have e : (⟨(4 * (t.val / 4) + t.val % 4) * 128 + l.val, by omega⟩ : Fin 5632) = ⟨t.val * 128 + l.val, by omega⟩ := Fin.ext (by
    show (4 * (t.val / 4) + t.val % 4) * 128 + l.val = t.val * 128 + l.val
    omega)
  rw [← e]; exact this

/-- Tile `n` of 256 rows. -/
def tile (X : (Sh 24576).Idx → EReal) (n : ℕ) (y : S256x2048.Idx) : EReal :=
  X (ix2 ⟨(n * 256 + (y 0).val) % 24576, Nat.mod_lt _ (by decide)⟩ (y 1))

/-- The bound of the first `n` tiles: it bounds zero, and every element of their product that falls on the cell. -/
def bound (X : (Sh 24576).Idx → EReal) (W : S2048x5632.Idx → EReal) (S : S1x5632.Idx → EReal) (s : Fin 8) (l : Fin 128) (n : ℕ) (z : EReal) : Prop :=
  0 ≤ z ∧ ∀ b : Fin 3072, b.val < 32 * n → ∀ t : Fin 44,
    term (deqT X) W S ⟨b.val * 8 + s.val, by omega⟩ ⟨t.val * 128 + l.val, by omega⟩ ≤ z

/-- The dequantised values of a tile are those of the rows it is cut from. -/
theorem deq_tile (X : (Sh 24576).Idx → EReal) (n : ℕ) (r : Fin 256) (k : Fin 2048) :
    deqT (n := 256) (tile X n) (ix2 r k) = deqT X (ix2 ⟨(n * 256 + r.val) % 24576, Nat.mod_lt _ (by decide)⟩ k) := rfl

/-- One more tile. -/
theorem phase_bound (X : (Sh 24576).Idx → EReal) (W : S2048x5632.Idx → EReal) (S : S1x5632.Idx → EReal) (s : Fin 8) (l : Fin 128) (n : ℕ)
    (hn : n < 96) (a : FVec Ideal S8x128 .f32) (ha : ∀ z, a (ix2 s l) ≤ z ↔ bound X W S s l n z) (z : EReal) :
    phase a (deqT (n := 256) (tile X n)) W S (ix2 s l) ≤ z ↔ bound X W S s l (n + 1) z := by
  have ht : ∀ (g : Fin 32) (c : Fin 5632), term (n := 256) (deqT (n := 256) (tile X n)) W S ⟨g.val * 8 + s.val, by omega⟩ c
      = term (deqT X) W S ⟨(n * 32 + g.val) * 8 + s.val, by omega⟩ c := by
    intro g c
    have e : (⟨(n * 256 + (g.val * 8 + s.val)) % 24576, Nat.mod_lt _ (by decide)⟩ : Fin 24576) = ⟨(n * 32 + g.val) * 8 + s.val, by omega⟩ :=
      Fin.ext (by show (n * 256 + (g.val * 8 + s.val)) % 24576 = (n * 32 + g.val) * 8 + s.val; omega)
    unfold term
    rw [← e]
    rfl
  rw [phase_le, ha]
  constructor
  · rintro ⟨⟨h0, h1⟩, h2⟩
    refine ⟨h0, fun b hb t => ?_⟩
    by_cases hlt : b.val < 32 * n
    · exact h1 b hlt t
    · have h := h2 ⟨b.val - 32 * n, by omega⟩ t
      rw [ht] at h
      have e : (⟨(n * 32 + (b.val - 32 * n)) * 8 + s.val, by omega⟩ : Fin 24576) = ⟨b.val * 8 + s.val, by omega⟩ :=
        Fin.ext (by show (n * 32 + (b.val - 32 * n)) * 8 + s.val = b.val * 8 + s.val; omega)
      rw [← e]; exact h
  · rintro ⟨h0, h1⟩
    refine ⟨⟨h0, fun b hb t => h1 b (by omega) t⟩, fun g t => ?_⟩
    rw [ht]
    exact h1 ⟨n * 32 + g.val, by omega⟩ (by show n * 32 + g.val < 32 * (n + 1); omega) t

/-- A magnitude is not negative. -/
theorem absf_nonneg (x : EReal) : 0 ≤ FloatOps.absf (F := Ideal) (φ := .f32) x := by
  show (0 : EReal) ≤ max x (-x)
  rcases le_total 0 x with h | h
  · exact le_max_of_le_left h
  · exact le_max_of_le_right (EReal.neg_nonneg.mpr h)

end Cert.KernelIdeal.Val

end
-- ==== Proof.Grid.lean ====
/- What a run of the kernel leaves in its results: step by step over the grid, the codes and the block scales of all the rows,
   and the maxima of all the tiles. -/
module

public import proofs.«01_k».proof.Proof.StepA
public import proofs.«01_k».proof.Proof.StepB
public import proofs.«01_k».proof.Proof.Phase
public import proofs.«01_k».proof.Proof.Gen.KernelIdeal.Value
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The rows of the argument. -/
def rowsOf (c : Dev nD) : S24576x2048.Idx → EReal := V m c main_v0
/-- The weights. -/
def wOf (c : Dev nD) : S2048x5632.Idx → EReal := V m c main_arg1
/-- Their scales. -/
def sOf (c : Dev nD) : S1x5632.Idx → EReal := V m c main_v1

/-- The rows that stay in slow memory are the rows that the windows stage. -/
theorem V_v2 (c : Dev nD) : V m c main_v2 = V m c main_v0 := by
  simp only [V, hostOps0]
  rfl

/-- The block of the columns' scales. -/
theorem iblk0 (c : Dev nD) (t : Fin cfg0.N) : iblk m c 0 t = sOf m c := by
  have e : ∀ t : Fin cfg0.N, win0_0.index t = ![0, 0] := (by decide +kernel : ∀ t : Fin grid0.N, win0_0.index t = ![0, 0])
  funext y
  refine congrArg (V m c main_v1) (?_ : (win0_0.blk t).view.emb y = y)
  funext k
  exact Fin.ext (Pipeline.Window.rect_emb_val_of_index_zero win0_0 t k (by rw [e]; match k with | 0 => rfl | 1 => rfl) y)

/-- The tile staged for a step's second half. -/
theorem iblk1 (c : Dev nD) (t : Fin cfg0.N) : iblk m c 1 t = tile (rowsOf m c) (2 * t.val + 1) := by
  have e : ∀ t : Fin cfg0.N, win0_1.index t = ![2 * t.val + 1, 0] := (by decide +kernel : ∀ t : Fin grid0.N, win0_1.index t = ![2 * t.val + 1, 0])
  have hN : t.val < 48 := lt_of_lt_of_eq t.isLt (show cfg0.N = 48 from N_0)
  funext y
  have hy : (y 0).val < 256 := (y 0).isLt
  refine congrArg (V m c main_v0) (?_ : (win0_1.blk t).view.emb y = ix2 ⟨((2 * t.val + 1) * 256 + (y 0).val) % 24576, Nat.mod_lt _ (by decide)⟩ (y 1))
  funext k
  refine Fin.ext ((Pipeline.Window.rect_emb_val win0_1 t y k).trans ?_)
  rw [e]
  match k with
  | 0 => show (2 * t.val + 1) * 256 + (y 0).val = ((2 * t.val + 1) * 256 + (y 0).val) % 24576; omega
  | 1 => show 0 * 2048 + (y 1).val = (y 1).val; omega

/-- The tile staged for the next step's first half. -/
theorem iblk2 (c : Dev nD) (t : Fin cfg0.N) : iblk m c 2 t = tile (rowsOf m c) (min (2 * t.val + 2) 95) := by
  have e : ∀ t : Fin cfg0.N, win0_2.index t = ![min (2 * t.val + 2) 95, 0] := (by decide +kernel : ∀ t : Fin grid0.N, win0_2.index t = ![min (2 * t.val + 2) 95, 0])
  have hN : t.val < 48 := lt_of_lt_of_eq t.isLt (show cfg0.N = 48 from N_0)
  funext y
  have hy : (y 0).val < 256 := (y 0).isLt
  refine congrArg (V m c main_v0) (?_ : (win0_2.blk t).view.emb y = ix2 ⟨(min (2 * t.val + 2) 95 * 256 + (y 0).val) % 24576, Nat.mod_lt _ (by decide)⟩ (y 1))
  funext k
  refine Fin.ext ((Pipeline.Window.rect_emb_val win0_2 t y k).trans ?_)
  rw [e]
  match k with
  | 0 => show min (2 * t.val + 2) 95 * 256 + (y 0).val = (min (2 * t.val + 2) 95 * 256 + (y 0).val) % 24576; omega
  | 1 => show 0 * 2048 + (y 1).val = (y 1).val; omega

/-- The first tile, as the first step fetches it. -/
theorem dma_x (c : Dev nD) : kernelRun0_A.sl.dma0_1 c (V m c main_v2) = tile (rowsOf m c) 0 := by
  unfold kernelRun0_A.sl.dma0_1
  rw [V_v2]
  funext y
  have hy : (y 0).val < 256 := (y 0).isLt
  refine congrArg (V m c main_v0) (funext fun k => ?_)
  match k with
  | 0 => exact Fin.ext (by show 0 + 1 * (y 0).val = (0 * 256 + (y 0).val) % 24576; omega)
  | 1 => exact Fin.ext (by show 0 + 1 * (y 1).val = (y 1).val; omega)

/-- The weights, as it fetches them. -/
theorem dma_w (c : Dev nD) : kernelRun0_A.sl.dma0 c (V m c main_arg1) = wOf m c := by
  unfold kernelRun0_A.sl.dma0
  rfl

/-- What step `t` leaves: its codes and scales, the maxima of the tiles so far, the weights, and the next tile dequantised. -/
structure After (c : Dev nD) (t : ℕ)
    (o : Vec Ideal S512x5632 .fp8e4m3 × Vec Ideal S256x2x5632 .bf16 × Vec Ideal S512x2048 .fp8e4m3 × Vec Ideal S512x16 .f32 × Vec Ideal S8x128 .f32 × Vec Ideal S8x128 .i32 × Vec Ideal S2048x5632 .fp8e4m3 × Vec Ideal S256x2048 .bf16 × Vec Ideal S256x2048 .fp8e4m3 × Vec Ideal S256x16 .f32) : Prop where
  codes : o.2.2.1 = two (m := 512) (codesT (n := 256) (tile (rowsOf m c) (2 * t))) (codesT (n := 256) (tile (rowsOf m c) (2 * t + 1)))
  scales : o.2.2.2.1 = two (m := 512) (scalesT (n := 256) (tile (rowsOf m c) (2 * t))) (scalesT (n := 256) (tile (rowsOf m c) (2 * t + 1)))
  amax : ∀ (s : Fin 8) (l : Fin 128) (z : EReal), (o.2.2.2.2.1 : S8x128.Idx → EReal) (ix2 s l) ≤ z ↔ bound (rowsOf m c) (wOf m c) (sOf m c) s l (2 * t + 2) z
  w : o.2.2.2.2.2.2.1 = wOf m c
  deq : o.2.2.2.2.2.2.2.1 = deqT (n := 256) (tile (rowsOf m c) (min (2 * t + 2) 95))
  ncodes : o.2.2.2.2.2.2.2.2.1 = codesT (n := 256) (tile (rowsOf m c) (min (2 * t + 2) 95))
  nscales : o.2.2.2.2.2.2.2.2.2 = scalesT (n := 256) (tile (rowsOf m c) (min (2 * t + 2) 95))

/-- What the first step leaves. -/
theorem after_A (c : Dev nD) (t : Fin cfg0.N) (h0 : t.val % 48 = 0) : After m c t.val (outsAt0 m c t.val t.isLt) := by
  have hN : t.val < 48 := lt_of_lt_of_eq t.isLt (show cfg0.N = 48 from N_0)
  have ht : t.val = 0 := by omega
  rw [outsAt0_A m c t h0]
  constructor <;> dsimp only
  · refine (out0_A_5_eq ..).trans ?_
    rw [dma_x, iblk1, ht]
  · refine (out0_A_6_eq ..).trans ?_
    rw [dma_x, iblk1, ht]
  · intro s l z
    refine (iff_of_eq (congrArg (fun f : S8x128.Idx → EReal => f (ix2 s l) ≤ z) (out0_A_7_eq ..))).trans ?_
    rw [dma_x, dma_w, iblk1, iblk0, ht]
    refine phase_bound _ _ _ s l 1 (by decide) _ (fun z => phase_bound _ _ _ s l 0 (by decide) _ (fun z => ?_) z) z
    have e : (broadcast S8x128 (Scalar.ofBits (F := Ideal) .f32 0x00000000#32) : S8x128.Idx → EReal) (ix2 s l) = 0 := by pointwise
    rw [e]
    exact ⟨fun h => ⟨h, fun b hb => absurd hb (by omega)⟩, fun h => h.1⟩
  · exact (sout0_A_0_eq ..).trans (dma_w m c)
  · exact (sout0_A_1_eq ..).trans (by rw [iblk2])
  · exact (sout0_A_3_eq ..).trans (by rw [iblk2])
  · exact (sout0_A_4_eq ..).trans (by rw [iblk2])

/-- What a later step leaves, if the step before left what it should. -/
theorem after_B (c : Dev nD) (t : Fin cfg0.N) (h0 : ¬t.val % 48 = 0)
    (ih : After m c (t.val - 1) (outsAt0 m c (t.val - 1) (Nat.lt_of_le_of_lt (Nat.sub_le _ _) t.isLt))) :
    After m c t.val (outsAt0 m c t.val t.isLt) := by
  have hN : t.val < 48 := lt_of_lt_of_eq t.isLt (show cfg0.N = 48 from N_0)
  have hm : min (2 * (t.val - 1) + 2) 95 = 2 * t.val := by omega
  have h2 : 2 * (t.val - 1) + 2 = 2 * t.val := by omega
  rw [outsAt0_B m c t h0]
  constructor <;> dsimp only
  · refine (out0_B_5_eq ..).trans ?_
    rw [ih.ncodes, iblk1, hm]
  · refine (out0_B_6_eq ..).trans ?_
    rw [ih.nscales, iblk1, hm]
  · intro s l z
    refine (iff_of_eq (congrArg (fun f : S8x128.Idx → EReal => f (ix2 s l) ≤ z) (out0_B_7_eq ..))).trans ?_
    rw [ih.w, ih.deq, iblk1, iblk0, hm]
    refine phase_bound _ _ _ s l (2 * t.val + 1) (by omega) _ (fun z => phase_bound _ _ _ s l (2 * t.val) (by omega) _ (fun z => ?_) z) z
    rw [← h2]
    exact ih.amax s l z
  · exact ih.w
  · exact (sout0_B_1_eq ..).trans (by rw [iblk2])
  · exact (sout0_B_3_eq ..).trans (by rw [iblk2])
  · exact (sout0_B_4_eq ..).trans (by rw [iblk2])

/-- What every step leaves. -/
theorem after (c : Dev nD) : ∀ (n : ℕ) (hn : n < cfg0.N), After m c n (outsAt0 m c n hn)
  | 0, hn => after_A m c ⟨0, hn⟩ (by rfl)
  | n + 1, hn => by
      have hN : n + 1 < 48 := lt_of_lt_of_eq hn (show cfg0.N = 48 from N_0)
      exact after_B m c ⟨n + 1, hn⟩ (by show ¬(n + 1) % 48 = 0; omega) (after c n (Nat.lt_of_succ_lt hn))

/-- Two tiles side by side are the rows they are cut from. -/
theorem two_codes (X : (Sh 24576).Idx → EReal) (t : ℕ) (ht : t < 48) (y : S512x2048.Idx) (i : S24576x2048.Idx)
    (hi0 : (i 0).val = t * 512 + (y 0).val) (hi1 : (i 1).val = (y 1).val) :
    two (n := 2048) (m := 512) (codesT (n := 256) (tile X (2 * t))) (codesT (n := 256) (tile X (2 * t + 1))) y = codesT (n := 24576) X i := by
  have hy : (y 0).val < 512 := (y 0).isLt
  rw [eq_ix2 i]
  have h1 : i 1 = y 1 := Fin.ext hi1
  by_cases h : (y 0).val < 256
  · refine (dif_pos h).trans ?_
    have e : (⟨(2 * t * 256 + (y 0).val) % 24576, Nat.mod_lt _ (by decide)⟩ : Fin 24576) = i 0 := Fin.ext (by
      show (2 * t * 256 + (y 0).val) % 24576 = _; omega)
    rw [h1, ← e]; rfl
  · refine (dif_neg h).trans ?_
    have e : (⟨((2 * t + 1) * 256 + ((y 0).val - 256) % 256) % 24576, Nat.mod_lt _ (by decide)⟩ : Fin 24576) = i 0 := Fin.ext (by
      show ((2 * t + 1) * 256 + ((y 0).val - 256) % 256) % 24576 = _; omega)
    rw [h1, ← e]; rfl

/-- The same of the scales. -/
theorem two_scales (X : (Sh 24576).Idx → EReal) (t : ℕ) (ht : t < 48) (y : S512x16.Idx) (i : S24576x16.Idx)
    (hi0 : (i 0).val = t * 512 + (y 0).val) (hi1 : (i 1).val = (y 1).val) :
    two (n := 16) (m := 512) (scalesT (n := 256) (tile X (2 * t))) (scalesT (n := 256) (tile X (2 * t + 1))) y = scalesT (n := 24576) X i := by
  have hy : (y 0).val < 512 := (y 0).isLt
  rw [eq_ix2 i]
  have h1 : i 1 = y 1 := Fin.ext hi1
  by_cases h : (y 0).val < 256
  · refine (dif_pos h).trans ?_
    have e : (⟨(2 * t * 256 + (y 0).val) % 24576, Nat.mod_lt _ (by decide)⟩ : Fin 24576) = i 0 := Fin.ext (by
      show (2 * t * 256 + (y 0).val) % 24576 = _; omega)
    rw [h1, ← e]; rfl
  · refine (dif_neg h).trans ?_
    have e : (⟨((2 * t + 1) * 256 + ((y 0).val - 256) % 256) % 24576, Nat.mod_lt _ (by decide)⟩ : Fin 24576) = i 0 := Fin.ext (by
      show ((2 * t + 1) * 256 + ((y 0).val - 256) % 256) % 24576 = _; omega)
    rw [h1, ← e]; rfl

/-- The codes the kernel leaves. -/
theorem codes (c : Dev nD) : (dats m 0 c).arrAt 5 cfg0.N = codesT (n := 24576) (rowsOf m c) := by
  have e : ∀ t : Fin cfg0.N, win0_5.index t = ![t.val, 0] := (by decide +kernel : ∀ t : Fin grid0.N, win0_5.index t = ![t.val, 0])
  refine (dats m 0 c).arrAt_eq_of_covers 5 _ (by decide +kernel) fun t hf y => ?_
  have hN : t.val < 48 := lt_of_lt_of_eq t.isLt (show cfg0.N = 48 from N_0)
  refine Eq.trans (congrFun ((after0_5 m c t).trans (after m c t.val t.isLt).codes) y) ?_
  refine two_codes (rowsOf m c) t.val hN y ((win0_5.blk t).view.emb y) ?_ ?_
  · refine (Pipeline.Window.rect_emb_val win0_5 t y 0).trans ?_
    rw [e]; rfl
  · refine (Pipeline.Window.rect_emb_val win0_5 t y 1).trans ?_
    rw [e]; show 0 * 2048 + (y 1).val = (y 1).val; omega

/-- The block scales it leaves. -/
theorem scales (c : Dev nD) : (dats m 0 c).arrAt 6 cfg0.N = scalesT (n := 24576) (rowsOf m c) := by
  have e : ∀ t : Fin cfg0.N, win0_6.index t = ![t.val, 0] := (by decide +kernel : ∀ t : Fin grid0.N, win0_6.index t = ![t.val, 0])
  refine (dats m 0 c).arrAt_eq_of_covers 6 _ (by decide +kernel) fun t hf y => ?_
  have hN : t.val < 48 := lt_of_lt_of_eq t.isLt (show cfg0.N = 48 from N_0)
  refine Eq.trans (congrFun ((after0_6 m c t).trans (after m c t.val t.isLt).scales) y) ?_
  refine two_scales (rowsOf m c) t.val hN y ((win0_6.blk t).view.emb y) ?_ ?_
  · refine (Pipeline.Window.rect_emb_val win0_6 t y 0).trans ?_
    rw [e]; rfl
  · refine (Pipeline.Window.rect_emb_val win0_6 t y 1).trans ?_
    rw [e]; show 0 * 16 + (y 1).val = (y 1).val; omega

/-- The last step. -/
def tLast : Fin cfg0.N := ⟨47, by rw [show cfg0.N = 48 from N_0]; decide⟩

/-- The maxima it leaves. -/
def arr7 (c : Dev nD) : S8x128.Idx → EReal := (dats m 0 c).arrAt 7 cfg0.N

/-- A bound on a cell of the maxima it leaves. -/
theorem amax_le (c : Dev nD) (s : Fin 8) (l : Fin 128) (z : EReal) :
    arr7 m c (ix2 s l) ≤ z ↔ bound (rowsOf m c) (wOf m c) (sOf m c) s l 96 z := by
  have e : arr7 m c = (outsAt0 m c 47 tLast.isLt).2.2.2.2.1 := by
    refine (dats m 0 c).arrAt_eq_of_after_last 7 tLast (by decide +kernel) _ fun j => ?_
    exact congrFun (after0_7 m c tLast) j
  rw [e]
  exact (after m c 47 tLast.isLt).amax s l z

end Cert.KernelIdeal.Val

end
-- ==== Proof.RefPay.lean ====
/- What the reference computes, element by element: its codes, its block scales, its dequantised operand and its maxima. -/
module

public import proofs.«01_k».proof.Proof.Block
public import proofs.«01_k».proof.Proof.Gen.ReferenceIdeal.Skeleton

@[expose] public section

set_option maxRecDepth 16384

noncomputable section

namespace Cert.ReferenceIdeal.Val

open Idealize.ShloMosaic Facts₀ Facts Cert.ReferenceIdeal.Gen Cert.KernelIdeal.Val

/-- A column is found again from its block and its place in the block. -/
theorem colB_blkOf (c : Fin 2048) : colB (blkOf c) ⟨c.val % 128, Nat.mod_lt _ (by decide)⟩ = c := by
  apply Fin.ext; simp only [blkOf, colB]; omega

/-- Comparing with the constant zero. -/
theorem sel0 (a x y : EReal) : Scalar.select (FloatOps.cmpf (F := Ideal) (φ := .f32) CmpFPredicate.oeq a (FloatOps.ofBits FTy.f32 0#32)) x y = if a = 0 then x else y := by
  pointwise

/-- The values as blocks. -/
theorem pay2_apply (x : FVec Ideal S24576x2048 .bf16) (r : Fin 24576) (j : Fin 16) (k : Fin 128) :
    k0_pay2 (F := Ideal) x (ix3 r j k) = x (ix2 r (colB j k)) := by
  pointwise [k0_pay2]
  exact congrArg (fun c => x (ix2 r c)) (Fin.ext (by simp only [colB]; omega))

/-- The block maxima. -/
def ra (v : FVec Ideal S24576x16x128 .f32) : FVec Ideal S24576x16x1 .f32 :=
  shapeCast S24576x16x1 (multiReduction .maximumf [2] S24576x16 (absf v) 0xFF800000#32 Facts₀.reduces_S24576x16x128_S24576x16
    (.inl rfl) rfl) Facts₀.shapeCasts_S24576x16_S24576x16x1

/-- The largest magnitude of 128 values. -/
def aOf (f : Fin 128 → EReal) : EReal :=
  Finset.fold max (Ideal.ofBits FTy.f32 0xFF800000#32) (fun k => FloatOps.absf (F := Ideal) (φ := .f32) (f k)) Finset.univ

/-- A block maximum is the largest magnitude of its 128 values. -/
theorem ra_apply (v : FVec Ideal S24576x16x128 .f32) (r : Fin 24576) (j : Fin 16) : ra v (ix3 r j 0) = aOf (fun k => v (ix3 r j k)) := by
  pointwise [ra]
  rfl

/-- The maximum is zero exactly if its product with the positive constant is. -/
theorem aOf_eq_zero (f : Fin 128 → EReal) : aOf f = 0 ↔ qOf f = 0 := by
  have h : Ideal.ofBits FTy.f32 0x3B124925#32 ≠ 0 := by
    have e : Ideal.ofBits FTy.f32 0x3B124925#32 = (((1 : ℝ) * (2 ^ 23 + 1198373 : Nat) * (2 : ℝ) ^ ((118 : Int) - 127 - 23) : ℝ) : EReal) := by
      simp [Ideal.ofBits, Ideal.ieee]
    rw [e]
    exact_mod_cast (by positivity : (1 : ℝ) * (2 ^ 23 + 1198373 : Nat) * (2 : ℝ) ^ ((118 : Int) - 127 - 23) ≠ 0)
  show _ ↔ aOf f * _ = 0
  rw [mul_eq_zero, or_iff_left h]

/-- The exponents of the block scales. -/
def re (a q : FVec Ideal S24576x16x1 .f32) : FVec Ideal S24576x16x1 .f32 :=
  select (cmpf .oeq a (broadcast S24576x16x1 (Scalar.ofBits .f32 0x00000000#32))) (broadcast S24576x16x1 (Scalar.ofBits .f32 0x00000000#32))
    (addf (floor (divf (log q) (log (broadcast S24576x16x1 (Scalar.ofBits .f32 0x40000000#32)))))
      (broadcast S24576x16x1 (Scalar.ofBits .f32 0x3F800000#32)))

/-- An exponent, element by element. -/
theorem re_apply (a q : FVec Ideal S24576x16x1 .f32) (i) : re a q i = if a i = 0 then (0 : EReal) else
  Ideal.liftRound Int.floor (Ideal.div (Ideal.log (q i)) (Ideal.log (Ideal.ofBits FTy.f32 0x40000000#32))) + 1 := by
  have h0 : (FloatOps.ofBits FTy.f32 0#32 : Ideal .f32) = (0 : EReal) := by pointwise
  have h1 : (FloatOps.ofBits FTy.f32 0x3F800000#32 : Ideal .f32) = (1 : EReal) := by pointwise
  unfold re
  refine (sel0 _ _ _).trans ?_
  rw [← h1]
  refine if_congr Iff.rfl h0 rfl

/-- The reference's exponents, of its block maxima and of their quotients by 448. -/
theorem pay3_eq (x : FVec Ideal S24576x2048 .bf16) : k0_pay3 (F := Ideal) x =
   re (ra (k0_pay2 x)) (mulf (ra (k0_pay2 x)) (broadcast S24576x16x1 (Scalar.ofBits .f32 0x3B124925#32))) := rfl

/-- The reference's block maxima are the largest magnitudes of the blocks of its rows. -/
theorem ra2_apply (x : FVec Ideal S24576x2048 .bf16) (r : Fin 24576) (j : Fin 16) :
    ra (k0_pay2 x) (ix3 r j 0) = aOf (fun k => x (ix2 r (colB j k))) :=
  (ra_apply _ r j).trans (congrArg aOf (funext fun k => pay2_apply x r j k))

/-- Where the block maximum is that of `f`, the exponent is that of the quantiser on `f`. -/
theorem re_of (a : FVec Ideal S24576x16x1 .f32) (i) (f) (h : a i = aOf f) :
    re a (mulf a (broadcast S24576x16x1 (Scalar.ofBits .f32 0x3B124925#32))) i = eOf (qOf f) := by
  have hq : mulf a (broadcast S24576x16x1 (Scalar.ofBits .f32 0x3B124925#32)) i = qOf f :=
    congrArg (fun a : EReal => a * Ideal.ofBits FTy.f32 0x3B124925#32) h
  refine (re_apply _ _ _).trans ?_
  rw [hq]
  exact if_congr ((iff_of_eq (congrArg (fun a : EReal => a = 0) h)).trans (aOf_eq_zero _)) rfl rfl

/-- The reference's exponents are those of the quantiser. -/
theorem pay3_apply (x : FVec Ideal S24576x2048 .bf16) (r : Fin 24576) (j : Fin 16) :
    k0_pay3 (F := Ideal) x (ix3 r j 0) = expo x r j :=
  (congrFun (pay3_eq x) _).trans (re_of _ _ _ (ra2_apply x r j))

/-- The power of two of an array, element by element. -/
theorem exp2_at (e : FVec Ideal S24576x16x1 .f32) (i) : exp2 e i = FloatOps.exp2 (F := Ideal) (φ := .f32) (e i) := rfl

/-- The reference's scales are two to its exponents. -/
theorem pay4_eq (x : FVec Ideal S24576x2048 .bf16) : k0_pay4 (F := Ideal) x = exp2 (k0_pay3 x) := rfl

/-- The reference's scales are two to the exponents of the quantiser. -/
theorem pay4_apply (x : FVec Ideal S24576x2048 .bf16) (r : Fin 24576) (j : Fin 16) :
    k0_pay4 (F := Ideal) x (ix3 r j 0) = FloatOps.exp2 (F := Ideal) (φ := .f32) (expo x r j) :=
  (congrFun (pay4_eq x) _).trans ((exp2_at _ _).trans (congrArg _ (pay3_apply x r j)))

/-- The row view of the block scales. -/
def r7 (e : FVec Ideal S24576x16x1 .f32) : FVec Ideal S24576x16 .f32 :=
  shapeCast S24576x16 e Facts₀.shapeCasts_S24576x16x1_S24576x16

/-- The row view of the block scales, element by element. -/
theorem r7_apply (e : FVec Ideal S24576x16x1 .f32) (r : Fin 24576) (c : Fin 16) : r7 e (ix2 r c) = e (ix3 r c 0) := by
  pointwise [r7]

/-- The reference's scales are those of the quantiser. -/
theorem pay7_apply (x : FVec Ideal S24576x2048 .bf16) (r : Fin 24576) (c : Fin 16) :
    k0_pay7 (F := Ideal) x (ix2 r c) = scalesT x (ix2 r c) :=
  (r7_apply _ r c).trans (pay4_apply x r c)

/-- The codes, of the values and the exponents. -/
def r5 (v : FVec Ideal S24576x16x128 .f32) (e : FVec Ideal S24576x16x1 .f32) : FVec Ideal S24576x16x128 .fp8e4m3 :=
  truncf .fp8e4m3 (minimumf (broadcast S24576x16x128 (Scalar.ofBits .f32 0x43E00000#32))
    (maximumf (broadcast S24576x16x128 (Scalar.ofBits .f32 0xC3E00000#32))
      (mulf v (broadcastTo S24576x16x128 (exp2 (subf (broadcast S24576x16x1 (Scalar.ofBits .f32 0x00000000#32)) e))
          Facts₀.broadcasts_S24576x16x1_S24576x16x128)))) Facts₀.bitsLt_fp8e4m3_f32

/-- The reference's codes, of its values and its exponents. -/
theorem r5_eq (x : FVec Ideal S24576x2048 .bf16) : k0_pay5 (F := Ideal) x = r5 (k0_pay2 x) (k0_pay3 x) := rfl

/-- A code is the value times two to minus the exponent of its block, clipped to 448. -/
theorem r5_apply (v : FVec Ideal S24576x16x128 .f32) (e : FVec Ideal S24576x16x1 .f32) (r : Fin 24576) (j : Fin 16) (k : Fin 128) :
    r5 v e (ix3 r j k) = min (Ideal.ofBits FTy.f32 0x43E00000#32) (max (Ideal.ofBits FTy.f32 0xC3E00000#32)
      (v (ix3 r j k) * FloatOps.exp2 (F := Ideal) (φ := .f32) (0 - e (ix3 r j 0)))) := by
  pointwise [r5]

/-- The reference's codes, by blocks. -/
theorem pay5_apply (x : FVec Ideal S24576x2048 .bf16) (r : Fin 24576) (c : Fin 2048) :
    k0_pay5 (F := Ideal) x (ix3 r (blkOf c) ⟨c.val % 128, Nat.mod_lt _ (by decide)⟩) = codesT x (ix2 r c) := by
  refine (congrFun (r5_eq x) _).trans ((r5_apply _ _ _ _ _).trans ?_)
  have h2 := (pay2_apply x r (blkOf c) ⟨c.val % 128, Nat.mod_lt _ (by decide)⟩).trans
    (congrArg (fun c => x (ix2 r c)) (colB_blkOf c))
  rw [h2, pay3_apply x r (blkOf c)]
  rfl

/-- The row view of the codes. -/
def r6 (v : FVec Ideal S24576x16x128 .fp8e4m3) : FVec Ideal S24576x2048 .fp8e4m3 :=
  shapeCast S24576x2048 v Facts₀.shapeCasts_S24576x16x128_S24576x2048

/-- The row view of the codes, element by element. -/
theorem r6_apply (v : FVec Ideal S24576x16x128 .fp8e4m3) (r : Fin 24576) (c : Fin 2048) :
    r6 v (ix2 r c) = v (ix3 r (blkOf c) ⟨c.val % 128, Nat.mod_lt _ (by decide)⟩) := by
  pointwise [r6]
  rfl

/-- The reference's codes are those of the quantiser. -/
theorem pay6_apply (x : FVec Ideal S24576x2048 .bf16) (r : Fin 24576) (c : Fin 2048) :
    k0_pay6 (F := Ideal) x (ix2 r c) = codesT x (ix2 r c) :=
  (r6_apply _ r c).trans (pay5_apply x r c)

/-- The dequantised values, of the codes and the scales. -/
def r8 (v : FVec Ideal S24576x16x128 .fp8e4m3) (e : FVec Ideal S24576x16x1 .f32) : FVec Ideal S24576x2048 .bf16 :=
  shapeCast S24576x2048 (mulf (extf .bf16 v Facts₀.bitsLt_fp8e4m3_bf16) (broadcastTo S24576x16x128
    (truncf .bf16 e Facts₀.bitsLt_bf16_f32) Facts₀.broadcasts_S24576x16x1_S24576x16x128)) Facts₀.shapeCasts_S24576x16x128_S24576x2048

/-- The reference's dequantised values, of its codes and its scales. -/
theorem r8_eq (x : FVec Ideal S24576x2048 .bf16) : k0_pay8 (F := Ideal) x = r8 (k0_pay5 x) (k0_pay4 x) := rfl

/-- A dequantised value is its code times the scale of its block. -/
theorem r8_apply (v : FVec Ideal S24576x16x128 .fp8e4m3) (e : FVec Ideal S24576x16x1 .f32) (r : Fin 24576) (c : Fin 2048) :
    r8 v e (ix2 r c) = v (ix3 r (blkOf c) ⟨c.val % 128, Nat.mod_lt _ (by decide)⟩) * e (ix3 r (blkOf c) 0) := by
  pointwise [r8]
  rfl

/-- The reference's dequantised values are those of the quantiser. -/
theorem pay8_apply (x : FVec Ideal S24576x2048 .bf16) (r : Fin 24576) (c : Fin 2048) :
    k0_pay8 (F := Ideal) x (ix2 r c) = deqT x (ix2 r c) := by
  refine (congrFun (r8_eq x) _).trans ((r8_apply _ _ _ _).trans ?_)
  rw [pay5_apply x r c, pay4_apply x r (blkOf c)]
  rfl

/-- The reference's partial maxima: over the rows and the columns that fall on a cell, of the magnitude of the product. -/
theorem pay1_apply (x : FVec Ideal S24576x2048 .bf16) (w : FVec Ideal S2048x5632 .fp8e4m3) (s : FVec Ideal S1x5632 .f32)
    (r : Fin 8) (c : Fin 128) :
    k0_pay1 (F := Ideal) x w s (ix2 r c) = Finset.fold max (Ideal.ofBits FTy.f32 0xFF800000#32)
      (fun a : Fin 44 => Finset.fold max (Ideal.ofBits FTy.f32 0xFF800000#32)
          (fun b : Fin 3072 => FloatOps.absf (F := Ideal) (φ := .f32)
              ((∑ k : Fin 2048, x (ix2 ⟨b.val * 8 + r.val, by omega⟩ k) * w (ix2 k ⟨a.val * 128 + c.val, by omega⟩)) *
                s (ix2 0 ⟨a.val * 128 + c.val, by omega⟩)))
          Finset.univ)
      Finset.univ := by
  pointwise [k0_pay1]

end Cert.ReferenceIdeal.Val

end
-- ==== Proof.RefVal.lean ====
/- What a run of the reference leaves in its results: the codes, the block scales and the partial maxima of its arguments. -/
module

public import proofs.«01_k».proof.Proof.RefPay
public import proofs.«01_k».proof.Proof.Phase
public import proofs.«01_k».proof.Proof.Gen.ReferenceIdeal.Frame
public import Idealize.ShloMosaic.Lib.Pipeline.ValueKit

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.KernelIdeal.Val
open Idealize.ShloMosaic.Pipeline (Dat)

variable (m : (ℓ : Loc nD τ sig) → Buf (Elt Ideal) ℓ) (ρ : Dev nD → PrngReg)

/-- The reference's run, each result named. -/
theorem run_named : θ_run defs (onTc (τ := τ) (main (F := Ideal))) ⟨m, fun _ => 0, ρ⟩ fun r => ∀ c : Dev nD,
      r.2.mem ((c : Thread nD τ).loc main_v2_0) = (dats m 0 c).arrAt 3 cfg0.N
      ∧ r.2.mem ((c : Thread nD τ).loc main_v2_1) = (dats m 0 c).arrAt 4 cfg0.N
      ∧ r.2.mem ((c : Thread nD τ).loc main_v2_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4, (h c).1 5,
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

/-- The one block of the rows is their array. -/
theorem blk0 (c : Dev nD) (t : Fin cfg0.N) : iblk m c 0 t = V m c main_v0 := by
  have e : ∀ t : Fin cfg0.N, win0_0.index t = ![0, 0] := (by decide +kernel : ∀ t : Fin grid0.N, win0_0.index t = ![0, 0])
  funext y
  refine congrArg (V m c main_v0) (?_ : (win0_0.blk t).view.emb y = y)
  funext k
  exact Fin.ext (Pipeline.Window.rect_emb_val_of_index_zero win0_0 t k (by rw [e]; match k with | 0 => rfl | 1 => rfl) y)

/-- And of the weights. -/
theorem blk1 (c : Dev nD) (t : Fin cfg0.N) : iblk m c 1 t = V m c main_arg1 := by
  have e : ∀ t : Fin cfg0.N, win0_1.index t = ![0, 0] := (by decide +kernel : ∀ t : Fin grid0.N, win0_1.index t = ![0, 0])
  funext y
  refine congrArg (V m c main_arg1) (?_ : (win0_1.blk t).view.emb y = y)
  funext k
  exact Fin.ext (Pipeline.Window.rect_emb_val_of_index_zero win0_1 t k (by rw [e]; match k with | 0 => rfl | 1 => rfl) y)

/-- And of their scales. -/
theorem blk2 (c : Dev nD) (t : Fin cfg0.N) : iblk m c 2 t = V m c main_v1 := by
  have e : ∀ t : Fin cfg0.N, win0_2.index t = ![0, 0] := (by decide +kernel : ∀ t : Fin grid0.N, win0_2.index t = ![0, 0])
  funext y
  refine congrArg (V m c main_v1) (?_ : (win0_2.blk t).view.emb y = y)
  funext k
  exact Fin.ext (Pipeline.Window.rect_emb_val_of_index_zero win0_2 t k (by rw [e]; match k with | 0 => rfl | 1 => rfl) y)

/-- A block loaded whole. -/
theorem ld_all {n k : ℕ} {φ : EltTy} (x : (⟨2, ![n, k]⟩ : Shape).Idx → Elt Ideal φ)
    (ho : ∀ a, ![0, 0] a + (⟨2, ![n, k]⟩ : Shape).size a ≤ (⟨2, ![n, k]⟩ : Shape).size a) :
    View.ld (Val := Elt Ideal) (e' := φ) x (Rect.unit (s := ⟨2, ![n, k]⟩) ![0, 0] (⟨2, ![n, k]⟩ : Shape).size ho) = x := by
  funext y
  refine congrArg x (funext fun a => Fin.ext ?_)
  match a with
  | 0 => show 0 + 1 * (y 0).val = _; omega
  | 1 => show 0 + 1 * (y 1).val = _; omega

/-- A block stored whole. -/
theorem canon_all {n k : ℕ} {φ : EltTy} (w : (⟨2, ![n, k]⟩ : Shape).Idx → Elt Ideal φ)
    (ho : ∀ a, ![0, 0] a + (⟨2, ![n, k]⟩ : Shape).size a ≤ (⟨2, ![n, k]⟩ : Shape).size a) (y : (⟨2, ![n, k]⟩ : Shape).Idx) :
    View.canon (Val := Elt Ideal) (e := φ) [⟨Rect.unit (s := ⟨2, ![n, k]⟩) ![0, 0] (⟨2, ![n, k]⟩ : Shape).size ho, w⟩] y = w y := by
  have e : (Rect.unit (s := ⟨2, ![n, k]⟩) ![0, 0] (⟨2, ![n, k]⟩ : Shape).size ho).emb y = y := funext fun a => Fin.ext (by
    match a with
    | 0 => show 0 + 1 * (y 0).val = _; omega
    | 1 => show 0 + 1 * (y 1).val = _; omega)
  have h := View.canon_cons_emb (Val := Elt Ideal) (e := φ) (Rect.unit (s := ⟨2, ![n, k]⟩) ![0, 0] (⟨2, ![n, k]⟩ : Shape).size ho) w [] y
  rw [e] at h
  exact h

/-- The codes the reference leaves. -/
theorem codes (c : Dev nD) : (dats m 0 c).arrAt 3 cfg0.N = codesT (n := 24576) (V m c main_v0) := by
  refine (dats m 0 c).arrAt_eq_of_after_last 3 t0_0 (by decide +kernel) _ fun j => ?_
  refine Eq.trans (congrFun (after0_3 m c t0_0) j) ?_
  unfold out0_3
  refine (canon_all _ _ j).trans ?_
  rw [ld_all, blk0]
  exact (congrArg _ (eq_ix2 j)).trans ((pay6_apply _ _ _).trans (congrArg (codesT (n := 24576) (V m c main_v0)) (eq_ix2 j).symm))

/-- The block scales it leaves. -/
theorem scales (c : Dev nD) : (dats m 0 c).arrAt 4 cfg0.N = scalesT (n := 24576) (V m c main_v0) := by
  refine (dats m 0 c).arrAt_eq_of_after_last 4 t0_0 (by decide +kernel) _ fun j => ?_
  refine Eq.trans (congrFun (after0_4 m c t0_0) j) ?_
  unfold out0_4
  refine (canon_all _ _ j).trans ?_
  rw [ld_all, blk0]
  exact (congrArg _ (eq_ix2 j)).trans ((pay7_apply _ _ _).trans (congrArg (scalesT (n := 24576) (V m c main_v0)) (eq_ix2 j).symm))

/-- The maxima it leaves. -/
def arr5 (c : Dev nD) : S8x128.Idx → EReal := (dats m 0 c).arrAt 5 cfg0.N

/-- A bound on a cell of the maxima it leaves. -/
theorem amax_le (c : Dev nD) (s : Fin 8) (l : Fin 128) (z : EReal) :
    arr5 m c (ix2 s l) ≤ z ↔ bound (V m c main_v0) (V m c main_arg1) (V m c main_v1) s l 96 z := by
  have e : arr5 m c = k0_pay1 (F := Ideal) (k0_pay8 (F := Ideal) (V m c main_v0)) (V m c main_arg1) (V m c main_v1) := by
    refine (dats m 0 c).arrAt_eq_of_after_last 5 t0_0 (by decide +kernel) _ fun j => ?_
    refine Eq.trans (congrFun (after0_5 m c t0_0) j) ?_
    unfold out0_5
    refine (canon_all _ _ j).trans ?_
    rw [ld_all, ld_all, ld_all, blk0, blk1, blk2]
    rfl
  have e8 : k0_pay8 (F := Ideal) (V m c main_v0) = deqT (n := 24576) (V m c main_v0) := by
    funext j
    rw [eq_ix2 j]
    exact pay8_apply _ _ _
  rw [e, e8, pay1_apply, Finset.fold_max_le]
  constructor
  · rintro ⟨_, h⟩
    have hb : ∀ (b : Fin 3072) (t : Fin 44), term (n := 24576) (deqT (n := 24576) (V m c main_v0)) (V m c main_arg1) (V m c main_v1)
        ⟨b.val * 8 + s.val, by omega⟩ ⟨t.val * 128 + l.val, by omega⟩ ≤ z := fun b t =>
      ((Finset.fold_max_le _).mp (h t (Finset.mem_univ t))).2 b (Finset.mem_univ b)
    exact ⟨le_trans (absf_nonneg _) (hb 0 0), fun b _ t => hb b t⟩
  · rintro ⟨_, h⟩
    exact ⟨negInf_le z, fun t _ => (Finset.fold_max_le _).mpr ⟨negInf_le z, fun b _ => h b (by omega) t⟩⟩

end Cert.ReferenceIdeal.Val

end
-- ==== Proof.Algebraic.lean ====
/- The value claim: the ideal program of the kernel and the ideal program of the reference leave the same codes of the rows, the
   same block scales and the same partial maxima of the product. -/
module

public import proofs.«01_k».proof.Defs
public import proofs.«01_k».proof.Proof.Claims
public import proofs.«01_k».proof.Proof.Grid
public import proofs.«01_k».proof.Proof.RefVal

@[expose] public section

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ)

/-- The rows are the first argument, its first two dimensions taken as one. -/
theorem rows_eq (c : Dev nD) :
    rowsOf m c = shapeCast S24576x2048 (m ((c : Thread nD τ).loc main_arg0) : S24x1024x2048.Idx → EReal) Gen.shapeCasts_S24x1024x2048_S24576x2048 := by
  unfold rowsOf
  unfold_abbrev_sides
  after_results
  rfl

/-- The columns' scales are the third argument, as one row. -/
theorem s_eq (c : Dev nD) :
    sOf m c = shapeCast S1x5632 (m ((c : Thread nD τ).loc main_arg2) : S5632.Idx → EReal) Gen.shapeCasts_S5632_S1x5632 := by
  unfold sOf
  unfold_abbrev_sides
  after_results
  rfl

/-- The weights are the second argument. -/
theorem w_eq (c : Dev nD) : wOf m c = m ((c : Thread nD τ).loc main_arg1) := V_main_arg1 m c

end Cert.KernelIdeal.Val

namespace Cert.ReferenceIdeal.Val

open Cert.ReferenceIdeal Cert.ReferenceIdeal.Gen Idealize.ShloMosaic Idealize.ShloMosaic.TcCoe Idealize.SL.Sem

variable (m : (ℓ : Loc nD τ sig) → Buf (Elt Ideal) ℓ)

/-- The rows are the first argument, its first two dimensions taken as one. -/
theorem rows_eq (c : Dev nD) :
    (V m c main_v0 : S24576x2048.Idx → EReal) = shapeCast S24576x2048 (m ((c : Thread nD τ).loc main_arg0) : S24x1024x2048.Idx → EReal) Gen.shapeCasts_S24x1024x2048_S24576x2048 := by
  unfold_abbrev_sides
  after_results
  rfl

/-- The columns' scales are the third argument, as one row. -/
theorem s_eq (c : Dev nD) :
    (V m c main_v1 : S1x5632.Idx → EReal) = shapeCast S1x5632 (m ((c : Thread nD τ).loc main_arg2) : S5632.Idx → EReal) Gen.shapeCasts_S5632_S1x5632 := by
  unfold_abbrev_sides
  after_results
  rfl

end Cert.ReferenceIdeal.Val

namespace Cert.Proof

open Idealize.ShloMosaic Idealize.SL.Sem

/-- On the same arguments the two programs quantise the same rows, -/
theorem rows_same {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.KernelIdeal.Val.rowsOf m c = Cert.ReferenceIdeal.Gen.V m' c Cert.ReferenceIdeal.main_v0 :=
  (Cert.KernelIdeal.Val.rows_eq m c).trans (Eq.trans (congrArg (fun x => shapeCast Cert.KernelIdeal.S24576x2048 x Cert.KernelIdeal.Gen.shapeCasts_S24x1024x2048_S24576x2048) h.symm)
    (Cert.ReferenceIdeal.Val.rows_eq m' c).symm)

/-- and scale by the same row of scales. -/
theorem s_same {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (c : Dev Cert.KernelIdeal.nD)
    (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.KernelIdeal.Val.sOf m c = Cert.ReferenceIdeal.Gen.V m' c Cert.ReferenceIdeal.main_v1 :=
  (Cert.KernelIdeal.Val.s_eq m c).trans (Eq.trans (congrArg (fun x => shapeCast Cert.KernelIdeal.S1x5632 x Cert.KernelIdeal.Gen.shapeCasts_S5632_S1x5632) h.symm)
    (Cert.ReferenceIdeal.Val.s_eq m' c).symm)

/-- The ideal programs of the kernel and of the reference, started on the same arguments, leave the same codes, the same block
    scales and the same partial maxima, and their arguments unchanged. -/
theorem algebraic : Cert.algebraic_KernelIdeal_ReferenceIdeal := by
  intro m g m' g' _ h
  have hx := fun c => rows_same c (h c).1
  have hs := fun c => s_same c (h c).2.2
  have hw : ∀ c, Cert.KernelIdeal.Val.wOf m c = Cert.ReferenceIdeal.Gen.V m' c Cert.ReferenceIdeal.main_arg1 := fun c =>
    (Cert.KernelIdeal.Val.w_eq m c).trans ((h c).2.1.symm.trans (Cert.ReferenceIdeal.Gen.V_main_arg1 m' c).symm)
  have hm : ∀ c, Cert.ReferenceIdeal.Val.arr5 m' c = Cert.KernelIdeal.Val.arr7 m c := fun c => funext fun j => by
    rw [eq_ix2 j]
    refine eq_of_forall_ge_iff fun z => (Cert.ReferenceIdeal.Val.amax_le m' c (j 0) (j 1) z).trans ?_
    rw [← hx, ← hs, ← hw]
    exact (Cert.KernelIdeal.Val.amax_le m c (j 0) (j 1) z).symm
  refine ⟨fun c => (Cert.KernelIdeal.Gen.dats m 0 c).arrAt 5 Cert.KernelIdeal.cfg0.N, fun c => (Cert.KernelIdeal.Gen.dats m 0 c).arrAt 6 Cert.KernelIdeal.cfg0.N,
    fun c => Cert.KernelIdeal.Val.arr7 m c,
    (θ_run _ _ _).mono (fun r k c => ?_) (Cert.KernelIdeal.Value.run_blocks m g), (θ_run _ _ _).mono (fun r k c => ?_) (Cert.ReferenceIdeal.Val.run_named m' g')⟩
  · obtain ⟨-, -, k5, k6, k7, -, a0, a1, a2⟩ := k c
    exact ⟨k5, k6, k7, a0, a1, a2⟩
  · obtain ⟨k3, k4, k5, a0, a1, a2⟩ := k c
    refine ⟨k3.trans ?_, k4.trans ?_, k5.trans (hm c), a0, a1, a2⟩
    · exact (Cert.ReferenceIdeal.Val.codes m' c).trans ((congrArg _ (hx c).symm).trans (Cert.KernelIdeal.Val.codes m c).symm)
    · exact (Cert.ReferenceIdeal.Val.scales m' c).trans ((congrArg _ (hx c).symm).trans (Cert.KernelIdeal.Val.scales m c).symm)

end Cert.Proof

end
-- ==== Proof.lean ====
/- The certificate: the claims proved in the modules below, in the order in which they are stated. -/
module

public import proofs.«01_k».proof.Defs
public import proofs.«01_k».proof.Proof.Claims
public import proofs.«01_k».proof.Proof.Algebraic

@[expose] public section

noncomputable section

namespace Cert.Proof

open Idealize.ShloMosaic Idealize.SL.Sem

/-- The frames of the three programs, that the ideal program is the kernel, and that the ideal programs of the kernel and of the
    reference leave the same codes, block scales and partial maxima. -/
theorem claim : Cert.Claim :=
  ⟨Cert.Kernel.Gen.facts, Cert.KernelIdeal.Gen.facts, Cert.ReferenceIdeal.Gen.facts, frame_p, frame_pi, frame_ri, preserves, algebraic⟩

end Cert.Proof

end
